-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
-- ==== Pre_finite_scales.lean ====
abbrev S96x1x5120 : Shape := ⟨3, ![96, 1, 5120]⟩
abbrev S17920x5120 : Shape := ⟨2, ![17920, 5120]⟩
abbrev S17920x160 : Shape := ⟨2, ![17920, 160]⟩
abbrev S_ : Shape := ⟨0, ![]⟩

class Facts : Prop where
  natLt_16_32 : 16 < 32
  bcast_S_S17920x160 : S_.BroadcastsInDim S17920x160 (![] : Fin 0 → Fin S17920x160.rank)

variable [Facts]

def fn {F : FTy → Type} [FloatOps F] (main_arg0 : FVec F S96x1x5120 .bf16) (main_arg1 : IVec S17920x5120 8) (main_arg2 : IVec S17920x160 16) (main_arg3 : IVec S17920x5120 8) (main_arg4 : IVec S17920x160 16) : IVec S17920x160 1 :=
  let main_v0 : IVec S17920x160 32 := (extsi 32 · natLt_16_32) main_arg2
  let main_c : IVec S_ 32 := constantI S_ 32 10#32
  let main_v1 : IVec S17920x160 32 := broadcastInDim S17920x160 ![] bcast_S_S17920x160 main_c
  let main_v2 : IVec S17920x160 32 := Host.shrsi main_v0 main_v1
  let main_c_0 : IVec S_ 32 := constantI S_ 32 31#32
  let main_v3 : IVec S17920x160 32 := broadcastInDim S17920x160 ![] bcast_S_S17920x160 main_c_0
  let main_v4 : IVec S17920x160 32 := andi main_v2 main_v3
  let main_c_1 : IVec S_ 32 := constantI S_ 32 31#32
  let main_v5 : IVec S17920x160 32 := broadcastInDim S17920x160 ![] bcast_S_S17920x160 main_c_1
  let main_v6 : IVec S17920x160 1 := cmpi .ne main_v4 main_v5
  let main_v7 : IVec S17920x160 32 := (extsi 32 · natLt_16_32) main_arg4
  let main_c_2 : IVec S_ 32 := constantI S_ 32 10#32
  let main_v8 : IVec S17920x160 32 := broadcastInDim S17920x160 ![] bcast_S_S17920x160 main_c_2
  let main_v9 : IVec S17920x160 32 := Host.shrsi main_v7 main_v8
  let main_c_3 : IVec S_ 32 := constantI S_ 32 31#32
  let main_v10 : IVec S17920x160 32 := broadcastInDim S17920x160 ![] bcast_S_S17920x160 main_c_3
  let main_v11 : IVec S17920x160 32 := andi main_v9 main_v10
  let main_c_4 : IVec S_ 32 := constantI S_ 32 31#32
  let main_v12 : IVec S17920x160 32 := broadcastInDim S17920x160 ![] bcast_S_S17920x160 main_c_4
  let main_v13 : IVec S17920x160 1 := cmpi .ne main_v11 main_v12
  let main_v14 : IVec S17920x160 1 := andi main_v6 main_v13
  main_v14
-- ==== Kernel.lean ====
abbrev S96x1x5120 : Shape := ⟨3, ![96, 1, 5120]⟩
abbrev S17920x5120 : Shape := ⟨2, ![17920, 5120]⟩
abbrev S17920x160 : Shape := ⟨2, ![17920, 160]⟩
abbrev S96x5120 : Shape := ⟨2, ![96, 5120]⟩
abbrev S96x17920 : Shape := ⟨2, ![96, 17920]⟩
abbrev S256x5120 : Shape := ⟨2, ![256, 5120]⟩
abbrev S256x160 : Shape := ⟨2, ![256, 160]⟩
abbrev S96x256 : Shape := ⟨2, ![96, 256]⟩
abbrev S80x256 : Shape := ⟨2, ![80, 256]⟩
abbrev S160x256 : Shape := ⟨2, ![160, 256]⟩
abbrev S256x256 : Shape := ⟨2, ![256, 256]⟩
abbrev S32x256 : Shape := ⟨2, ![32, 256]⟩
abbrev S1x256 : Shape := ⟨2, ![1, 256]⟩

abbrev nBuf : Space → Nat
  | .hbm => 7
  | .vmem => 15
  | .smem => 0
  | _ => 0

abbrev bufTy : (tb : Table) → Fin (tcTables nBuf tb) → BufTy
  | .hbm, ⟨0, _⟩ => ⟨S96x1x5120, .bf16⟩
  | .hbm, ⟨1, _⟩ => ⟨S17920x5120, .i8⟩
  | .hbm, ⟨2, _⟩ => ⟨S17920x160, .i16⟩
  | .hbm, ⟨3, _⟩ => ⟨S17920x5120, .i8⟩
  | .hbm, ⟨4, _⟩ => ⟨S17920x160, .i16⟩
  | .hbm, ⟨5, _⟩ => ⟨S96x5120, .bf16⟩
  | .hbm, ⟨6, _⟩ => ⟨S96x17920, .bf16⟩
  | .local _ .vmem, ⟨0, _⟩ => ⟨S96x5120, .bf16⟩
  | .local _ .vmem, ⟨1, _⟩ => ⟨S256x5120, .i8⟩
  | .local _ .vmem, ⟨2, _⟩ => ⟨S256x5120, .i8⟩
  | .local _ .vmem, ⟨3, _⟩ => ⟨S256x160, .i16⟩
  | .local _ .vmem, ⟨4, _⟩ => ⟨S256x160, .i16⟩
  | .local _ .vmem, ⟨5, _⟩ => ⟨S256x5120, .i8⟩
  | .local _ .vmem, ⟨6, _⟩ => ⟨S256x5120, .i8⟩
  | .local _ .vmem, ⟨7, _⟩ => ⟨S256x160, .i16⟩
  | .local _ .vmem, ⟨8, _⟩ => ⟨S256x160, .i16⟩
  | .local _ .vmem, ⟨9, _⟩ => ⟨S96x256, .bf16⟩
  | .local _ .vmem, ⟨10, _⟩ => ⟨S96x256, .bf16⟩
  | .local _ .vmem, ⟨11, _⟩ => ⟨S80x256, .f32⟩
  | .local _ .vmem, ⟨12, _⟩ => ⟨S80x256, .f32⟩
  | .local _ .vmem, ⟨13, _⟩ => ⟨S80x256, .f32⟩
  | .local _ .vmem, ⟨14, _⟩ => ⟨S80x256, .f32⟩
  | _, _ => ⟨S96x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![70], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x5120 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x160 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5120 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x160 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S96x1x5120 : Shape := ⟨3, ![96, 1, 5120]⟩
abbrev S17920x5120 : Shape := ⟨2, ![17920, 5120]⟩
abbrev S17920x160 : Shape := ⟨2, ![17920, 160]⟩
abbrev S17920x160x32 : Shape := ⟨3, ![17920, 160, 32]⟩
abbrev S_ : Shape := ⟨0, ![]⟩
abbrev S17920x160x1 : Shape := ⟨3, ![17920, 160, 1]⟩
abbrev S96x1x17920 : Shape := ⟨3, ![96, 1, 17920]⟩
abbrev S96x17920 : Shape := ⟨2, ![96, 17920]⟩

abbrev nBuf : Space → Nat
  | .hbm => 135
  | .vmem => 0
  | .smem => 0
  | _ => 0

abbrev hbmTy0_0 (i : Nat) : BufTy := match i % 128 with
  | 0 => ⟨S96x1x5120, .bf16⟩
  | 1 => ⟨S17920x5120, .i8⟩
  | 2 => ⟨S17920x160, .i16⟩
  | 3 => ⟨S17920x5120, .i8⟩
  | 4 => ⟨S17920x160, .i16⟩
  | 5 => ⟨S17920x5120, .i32⟩
  | 6 => ⟨S17920x5120, .f32⟩
  | 7 => ⟨S17920x160x32, .f32⟩
  | 8 => ⟨S17920x160, .i32⟩
  | 9 => ⟨S_, .i32⟩
  | 10 => ⟨S17920x160, .i32⟩
  | 11 => ⟨S17920x160, .i32⟩
  | 12 => ⟨S_, .i32⟩
  | 13 => ⟨S17920x160, .i32⟩
  | 14 => ⟨S17920x160, .i32⟩
  | 15 => ⟨S_, .i32⟩
  | 16 => ⟨S17920x160, .i32⟩
  | 17 => ⟨S17920x160, .i32⟩
  | 18 => ⟨S17920x160, .f32⟩
  | 19 => ⟨S_, .f32⟩
  | 20 => ⟨S17920x160, .f32⟩
  | 21 => ⟨S17920x160, .f32⟩
  | 22 => ⟨S_, .i32⟩
  | 23 => ⟨S17920x160, .i32⟩
  | 24 => ⟨S17920x160, .i32⟩
  | 25 => ⟨S17920x160, .f32⟩
  | 26 => ⟨S_, .f32⟩
  | 27 => ⟨S17920x160, .f32⟩
  | 28 => ⟨S17920x160, .f32⟩
  | 29 => ⟨S_, .f32⟩
  | 30 => ⟨S17920x160, .f32⟩
  | 31 => ⟨S17920x160, .f32⟩
  | 32 => ⟨S17920x160, .f32⟩
  | 33 => ⟨S_, .f32⟩
  | 34 => ⟨S17920x160, .f32⟩
  | 35 => ⟨S17920x160, .f32⟩
  | 36 => ⟨S_, .f32⟩
  | 37 => ⟨S17920x160, .f32⟩
  | 38 => ⟨S17920x160, .i1⟩
  | 39 => ⟨S_, .f32⟩
  | 40 => ⟨S_, .f32⟩
  | 41 => ⟨S17920x160, .f32⟩
  | 42 => ⟨S17920x160, .f32⟩
  | 43 => ⟨S17920x160, .f32⟩
  | 44 => ⟨S_, .i32⟩
  | 45 => ⟨S17920x160, .i32⟩
  | 46 => ⟨S17920x160, .i1⟩
  | 47 => ⟨S_, .i32⟩
  | 48 => ⟨S17920x160, .i32⟩
  | 49 => ⟨S17920x160, .i1⟩
  | 50 => ⟨S17920x160, .f32⟩
  | 51 => ⟨S17920x160, .f32⟩
  | 52 => ⟨S17920x160, .f32⟩
  | 53 => ⟨S_, .i32⟩
  | 54 => ⟨S17920x160, .i32⟩
  | 55 => ⟨S17920x160, .i1⟩
  | 56 => ⟨S17920x160, .f32⟩
  | 57 => ⟨S17920x160, .f32⟩
  | 58 => ⟨S17920x160x1, .f32⟩
  | 59 => ⟨S17920x160x32, .f32⟩
  | 60 => ⟨S17920x160x32, .f32⟩
  | 61 => ⟨S17920x5120, .f32⟩
  | 62 => ⟨S17920x5120, .bf16⟩
  | 63 => ⟨S17920x5120, .i32⟩
  | 64 => ⟨S17920x5120, .f32⟩
  | 65 => ⟨S17920x160x32, .f32⟩
  | 66 => ⟨S17920x160, .i32⟩
  | 67 => ⟨S_, .i32⟩
  | 68 => ⟨S17920x160, .i32⟩
  | 69 => ⟨S17920x160, .i32⟩
  | 70 => ⟨S_, .i32⟩
  | 71 => ⟨S17920x160, .i32⟩
  | 72 => ⟨S17920x160, .i32⟩
  | 73 => ⟨S_, .i32⟩
  | 74 => ⟨S17920x160, .i32⟩
  | 75 => ⟨S17920x160, .i32⟩
  | 76 => ⟨S17920x160, .f32⟩
  | 77 => ⟨S_, .f32⟩
  | 78 => ⟨S17920x160, .f32⟩
  | 79 => ⟨S17920x160, .f32⟩
  | 80 => ⟨S_, .i32⟩
  | 81 => ⟨S17920x160, .i32⟩
  | 82 => ⟨S17920x160, .i32⟩
  | 83 => ⟨S17920x160, .f32⟩
  | 84 => ⟨S_, .f32⟩
  | 85 => ⟨S17920x160, .f32⟩
  | 86 => ⟨S17920x160, .f32⟩
  | 87 => ⟨S_, .f32⟩
  | 88 => ⟨S17920x160, .f32⟩
  | 89 => ⟨S17920x160, .f32⟩
  | 90 => ⟨S17920x160, .f32⟩
  | 91 => ⟨S_, .f32⟩
  | 92 => ⟨S17920x160, .f32⟩
  | 93 => ⟨S17920x160, .f32⟩
  | 94 => ⟨S_, .f32⟩
  | 95 => ⟨S17920x160, .f32⟩
  | 96 => ⟨S17920x160, .i1⟩
  | 97 => ⟨S_, .f32⟩
  | 98 => ⟨S_, .f32⟩
  | 99 => ⟨S17920x160, .f32⟩
  | 100 => ⟨S17920x160, .f32⟩
  | 101 => ⟨S17920x160, .f32⟩
  | 102 => ⟨S_, .i32⟩
  | 103 => ⟨S17920x160, .i32⟩
  | 104 => ⟨S17920x160, .i1⟩
  | 105 => ⟨S_, .i32⟩
  | 106 => ⟨S17920x160, .i32⟩
  | 107 => ⟨S17920x160, .i1⟩
  | 108 => ⟨S17920x160, .f32⟩
  | 109 => ⟨S17920x160, .f32⟩
  | 110 => ⟨S17920x160, .f32⟩
  | 111 => ⟨S_, .i32⟩
  | 112 => ⟨S17920x160, .i32⟩
  | 113 => ⟨S17920x160, .i1⟩
  | 114 => ⟨S17920x160, .f32⟩
  | 115 => ⟨S17920x160, .f32⟩
  | 116 => ⟨S17920x160x1, .f32⟩
  | 117 => ⟨S17920x160x32, .f32⟩
  | 118 => ⟨S17920x160x32, .f32⟩
  | 119 => ⟨S17920x5120, .f32⟩
  | 120 => ⟨S17920x5120, .bf16⟩
  | 121 => ⟨S96x1x17920, .f32⟩
  | 122 => ⟨S96x1x17920, .f32⟩
  | 123 => ⟨S96x1x17920, .f32⟩
  | 124 => ⟨S96x1x17920, .f32⟩
  | 125 => ⟨S_, .f32⟩
  | 126 => ⟨S96x1x17920, .f32⟩
  | 127 => ⟨S96x1x17920, .f32⟩
  | _ => ⟨S96x1x5120, .bf16⟩

abbrev hbmTy0_1 (i : Nat) : BufTy := match i % 128 with
  | 0 => ⟨S_, .f32⟩
  | 1 => ⟨S96x1x17920, .f32⟩
  | 2 => ⟨S96x1x17920, .f32⟩
  | 3 => ⟨S96x1x17920, .f32⟩
  | 4 => ⟨S96x1x17920, .f32⟩
  | 5 => ⟨S96x1x17920, .bf16⟩
  | 6 => ⟨S96x17920, .bf16⟩
  | _ => ⟨S96x1x5120, .bf16⟩

abbrev hbmTy (i : Nat) : BufTy := match i / 128 with
  | 0 => hbmTy0_0 i
  | 1 => hbmTy0_1 i
  | _ => ⟨S96x1x5120, .bf16⟩

abbrev bufTy : (tb : Table) → Fin (tcTables nBuf tb) → BufTy
  | .hbm, ⟨i, _⟩ => hbmTy i
  | _, _ => ⟨S96x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_cst_8 : Ref sig .tc := ⟨.hbm, 40, rfl⟩
abbrev main_call0_v0 : Ref sig .tc := ⟨.hbm, 41, rfl⟩
abbrev main_call0_v1 : Ref sig .tc := ⟨.hbm, 42, rfl⟩
abbrev main_v25 : Ref sig .tc := ⟨.hbm, 43, rfl⟩
abbrev main_c_9 : Ref sig .tc := ⟨.hbm, 44, rfl⟩
abbrev main_v26 : Ref sig .tc := ⟨.hbm, 45, rfl⟩
abbrev main_v27 : Ref sig .tc := ⟨.hbm, 46, rfl⟩
abbrev main_c_10 : Ref sig .tc := ⟨.hbm, 47, rfl⟩
abbrev main_v28 : Ref sig .tc := ⟨.hbm, 48, rfl⟩
abbrev main_v29 : Ref sig .tc := ⟨.hbm, 49, rfl⟩
abbrev main_call1_v0 : Ref sig .tc := ⟨.hbm, 50, rfl⟩
abbrev main_v30 : Ref sig .tc := ⟨.hbm, 51, rfl⟩
abbrev main_v31 : Ref sig .tc := ⟨.hbm, 52, rfl⟩
abbrev main_c_11 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_12 : Ref sig .tc := ⟨.hbm, 67, rfl⟩
abbrev main_v45 : Ref sig .tc := ⟨.hbm, 68, rfl⟩
abbrev main_v46 : Ref sig .tc := ⟨.hbm, 69, rfl⟩
abbrev main_c_13 : Ref sig .tc := ⟨.hbm, 70, rfl⟩
abbrev main_v47 : Ref sig .tc := ⟨.hbm, 71, rfl⟩
abbrev main_v48 : Ref sig .tc := ⟨.hbm, 72, rfl⟩
abbrev main_c_14 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_15 : Ref sig .tc := ⟨.hbm, 77, rfl⟩
abbrev main_v52 : Ref sig .tc := ⟨.hbm, 78, rfl⟩
abbrev main_v53 : Ref sig .tc := ⟨.hbm, 79, rfl⟩
abbrev main_c_16 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_17 : Ref sig .tc := ⟨.hbm, 84, rfl⟩
abbrev main_v57 : Ref sig .tc := ⟨.hbm, 85, rfl⟩
abbrev main_v58 : Ref sig .tc := ⟨.hbm, 86, rfl⟩
abbrev main_cst_18 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_19 : Ref sig .tc := ⟨.hbm, 91, rfl⟩
abbrev main_v62 : Ref sig .tc := ⟨.hbm, 92, rfl⟩
abbrev main_v63 : Ref sig .tc := ⟨.hbm, 93, rfl⟩
abbrev main_cst_20 : Ref sig .tc := ⟨.hbm, 94, rfl⟩
abbrev main_v64 : Ref sig .tc := ⟨.hbm, 95, rfl⟩
abbrev main_v65 : Ref sig .tc := ⟨.hbm, 96, rfl⟩
abbrev main_cst_21 : Ref sig .tc := ⟨.hbm, 97, rfl⟩
abbrev main_cst_22 : Ref sig .tc := ⟨.hbm, 98, rfl⟩
abbrev main_call4_v0 : Ref sig .tc := ⟨.hbm, 99, rfl⟩
abbrev main_call4_v1 : Ref sig .tc := ⟨.hbm, 100, rfl⟩
abbrev main_v66 : Ref sig .tc := ⟨.hbm, 101, rfl⟩
abbrev main_c_23 : Ref sig .tc := ⟨.hbm, 102, rfl⟩
abbrev main_v67 : Ref sig .tc := ⟨.hbm, 103, rfl⟩
abbrev main_v68 : Ref sig .tc := ⟨.hbm, 104, rfl⟩
abbrev main_c_24 : Ref sig .tc := ⟨.hbm, 105, rfl⟩
abbrev main_v69 : Ref sig .tc := ⟨.hbm, 106, rfl⟩
abbrev main_v70 : Ref sig .tc := ⟨.hbm, 107, rfl⟩
abbrev main_call5_v0 : Ref sig .tc := ⟨.hbm, 108, rfl⟩
abbrev main_v71 : Ref sig .tc := ⟨.hbm, 109, rfl⟩
abbrev main_v72 : Ref sig .tc := ⟨.hbm, 110, rfl⟩
abbrev main_c_25 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_call8_v0 : Ref sig .tc := ⟨.hbm, 123, rfl⟩
abbrev main_call8_v1 : Ref sig .tc := ⟨.hbm, 124, rfl⟩
abbrev main_call8_cst : Ref sig .tc := ⟨.hbm, 125, rfl⟩
abbrev main_call8_v2 : Ref sig .tc := ⟨.hbm, 126, rfl⟩
abbrev main_call8_v3 : Ref sig .tc := ⟨.hbm, 127, rfl⟩
abbrev main_call8_cst_0 : Ref sig .tc := ⟨.hbm, 128, rfl⟩
abbrev main_call8_v4 : Ref sig .tc := ⟨.hbm, 129, rfl⟩
abbrev main_call8_v5 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩

abbrev nD : Nat := 1
abbrev τ : Topo := Topo.v7x

variable {F : FTy → Type} [FloatOps F]
-- ==== Proof.Decode.lean ====
/- Reading a half-precision scale from its word, at the ideal numbers: what the kernel computes from a 32-bit word, and
   what the reference computes from the 16-bit word, are both the number the binary16 word denotes. -/
module

public import proofs.«01_k».proof.Defs

@[expose] public section

set_option maxRecDepth 16384

noncomputable section

namespace Cert.Scale

open Idealize.ShloMosaic

/-- What a normal pattern of a format denotes, from its sign, exponent and fraction. -/
theorem ieee_normal {w : ℕ} (e m : ℕ) (b : BitVec w) (neg : Bool) (ex fr : ℕ)
    (h1 : (b.extractLsb' (e + m) 1 == 1#1) = neg) (h2 : (b.extractLsb' m e).toNat = ex) (h3 : (b.extractLsb' 0 m).toNat = fr)
    (hx : ex ≠ 2 ^ e - 1) (h0 : ex ≠ 0) :
    Ideal.ieee e m b = (((if neg then -1 else 1) * ((2 : ℝ) ^ m + fr) * 2 ^ ((ex : ℤ) - (2 ^ (e - 1) - 1) - m) : ℝ) : EReal) := by
  unfold Ideal.ieee
  dsimp only
  rw [h1, h2, h3, if_neg hx, if_neg h0, Nat.cast_add, Nat.cast_pow, Nat.cast_ofNat]

/-- What a subnormal pattern of a format denotes, from its sign and fraction. -/
theorem ieee_subnormal {w : ℕ} (e m : ℕ) (b : BitVec w) (neg : Bool) (fr : ℕ)
    (h1 : (b.extractLsb' (e + m) 1 == 1#1) = neg) (h2 : (b.extractLsb' m e).toNat = 0) (h3 : (b.extractLsb' 0 m).toNat = fr)
    (hx : 0 ≠ 2 ^ e - 1) :
    Ideal.ieee e m b = (((if neg then -1 else 1) * (fr : ℝ) * 2 ^ (1 - (2 ^ (e - 1) - 1) - m : ℤ) : ℝ) : EReal) := by
  unfold Ideal.ieee
  dsimp only
  rw [h1, h2, h3, if_neg hx, if_pos rfl]

/-- The number a binary16 word denotes. -/
def half (h : BitVec 16) : EReal := Ideal.ieee 5 10 h

/-- A binary16 word that is neither an infinity nor a NaN: its five exponent bits are not all ones. -/
def Finite (h : BitVec 16) : Prop := h.toNat / 1024 % 32 ≠ 31

/-- `half` of a finite word, from its sign, its exponent and its fraction. -/
theorem half_eq (h : BitVec 16) (hf : Finite h) :
    half h = (((if h.toNat / 32768 = 1 then -1 else 1) *
      (if h.toNat / 1024 % 32 = 0 then ((h.toNat % 1024 : ℕ) : ℝ) * 2 ^ (-24 : ℤ)
        else ((1024 + h.toNat % 1024 : ℕ) : ℝ) * 2 ^ ((h.toNat / 1024 % 32 : ℕ) - 25 : ℤ)) : ℝ) : EReal) := by
  have hlt := h.isLt
  have h1 : (h.extractLsb' 15 1 == 1#1) = decide (h.toNat / 32768 = 1) := by
    rw [Bool.beq_eq_decide_eq, decide_eq_decide, ← BitVec.toNat_inj]
    simp only [BitVec.extractLsb'_toNat, BitVec.toNat_ofNat, Nat.shiftRight_eq_div_pow]
    omega
  have h2 : (h.extractLsb' 10 5).toNat = h.toNat / 1024 % 32 := by
    simp [BitVec.extractLsb'_toNat, Nat.shiftRight_eq_div_pow]
  have h3 : (h.extractLsb' 0 10).toNat = h.toNat % 1024 := by
    simp [BitVec.extractLsb'_toNat]
  unfold half
  unfold Finite at hf
  by_cases hz : h.toNat / 1024 % 32 = 0
  · rw [ieee_subnormal 5 10 h _ _ h1 (h2.trans hz) h3 (by decide), if_pos hz, EReal.coe_eq_coe_iff, mul_assoc]
    by_cases hs : h.toNat / 32768 = 1 <;> simp only [hs, decide_true, decide_false, if_true, if_false, Bool.false_eq_true] <;> norm_num
  · rw [ieee_normal 5 10 h _ _ _ h1 h2 h3 (by norm_num; exact hf) hz, if_neg hz, EReal.coe_eq_coe_iff, mul_assoc,
      show ((h.toNat / 1024 % 32 : ℕ) : ℤ) - (2 ^ (5 - 1) - 1) - ((10 : ℕ) : ℤ) = (h.toNat / 1024 % 32 : ℕ) - 25 by push_cast; ring]
    by_cases hs : h.toNat / 32768 = 1 <;> simp only [hs, decide_true, decide_false, if_true, if_false, Bool.false_eq_true] <;> norm_num

/-- The number a binary16 word's magnitude denotes, by the formula that serves the normal and the subnormal words. -/
theorem half_cases (h : BitVec 16) (hf : Finite h) :
    ∃ e m : ℕ, e < 31 ∧ m < 1024 ∧ h.toNat / 1024 % 32 = e ∧ h.toNat % 1024 = m :=
  ⟨_, _, by have := hf; unfold Finite at this; omega, by omega, rfl, rfl⟩

/-! ## The kernel's decode -/

/-- The magnitude the kernel builds from a 32-bit word: the upper half's exponent and fraction moved to their
    binary32 places, the exponent rebased. -/
def word (u : BitVec 32) : BitVec 32 :=
  IntOp.addi (IntOp.andi (IntOp.shrsi .vector u 3#32) 268427264#32) 939524096#32

/-- The kernel's scale of a 32-bit word: the smaller of `v` and `2v - 2⁻¹⁴`, with the word's sign. -/
def kernel (u : BitVec 32) : EReal :=
  min (Ideal.ofBits .f32 (word u)) (Ideal.ofBits .f32 (word u) + Ideal.ofBits .f32 (word u) - Ideal.ofBits .f32 0x38800000#32)
    * (if IntOp.cmpi .slt u 0#32 = 1 then Ideal.ofBits .f32 0xBF800000#32 else Ideal.ofBits .f32 0x3F800000#32)

/-- A 32-bit word is negative exactly when its top bit is set. -/
theorem slt_zero (u : BitVec 32) : IntOp.cmpi .slt u 0#32 = 1 ↔ 2 ^ 31 ≤ u.toNat := by
  unfold IntOp.cmpi
  simp only [BitVec.slt_zero_eq_msb, BitVec.msb_eq_decide]
  by_cases hb : 2 ^ (32 - 1) ≤ u.toNat
  · simp only [decide_eq_true hb]; exact ⟨fun _ => hb, fun _ => rfl⟩
  · simp only [decide_eq_false hb]; exact ⟨fun h => absurd h (by decide), fun h => absurd h hb⟩

/-- The magnitude word, as a number: fifteen bits of the upper half in place, plus the rebasing. -/
theorem word_toNat (u : BitVec 32) : (word u).toNat = u.toNat / 65536 % 32768 * 8192 + 939524096 := by
  have hm : IntOp.andi (IntOp.shrsi .vector u 3#32) 268427264#32 = ((u.extractLsb' 16 15).setWidth 32) <<< 13 := by
    unfold IntOp.andi IntOp.shrsi
    rw [if_pos (by decide)]
    apply BitVec.eq_of_getLsbD_eq
    intro i hi
    interval_cases i <;> simp [BitVec.getElem_sshiftRight]
  have hu := u.isLt
  unfold word IntOp.addi
  rw [hm, BitVec.toNat_add, BitVec.toNat_shiftLeft, BitVec.toNat_setWidth, BitVec.extractLsb'_toNat]
  simp only [Nat.shiftRight_eq_div_pow, Nat.shiftLeft_eq, BitVec.toNat_ofNat]
  omega

/-- The number the magnitude word denotes. -/
theorem word_value (u : BitVec 32) (h : BitVec 16) (hu : u.extractLsb' 16 16 = h) (hf : Finite h) :
    Ideal.ofBits .f32 (word u)
      = (((1024 + h.toNat % 1024 : ℕ) : ℝ) * 2 ^ ((h.toNat / 1024 % 32 : ℕ) - 25 : ℤ) : ℝ) := by
  have hh : h.toNat = u.toNat / 65536 := by
    rw [← hu]; have := u.isLt; simp only [BitVec.extractLsb'_toNat, Nat.shiftRight_eq_div_pow]; omega
  have hw := word_toNat u
  generalize word u = w at hw ⊢
  unfold Finite at hf
  have h1 : (w.extractLsb' 31 1 == 1#1) = false := by
    rw [Bool.beq_eq_decide_eq, decide_eq_false_iff_not, ← BitVec.toNat_inj, BitVec.extractLsb'_toNat, Nat.shiftRight_eq_div_pow]
    generalize w.toNat = n at hw ⊢
    generalize u.toNat = k at hw hh
    rw [show (1#1).toNat = 1 from rfl]
    omega
  have h2 : (w.extractLsb' 23 8).toNat = h.toNat / 1024 % 32 + 112 := by
    rw [BitVec.extractLsb'_toNat, Nat.shiftRight_eq_div_pow]
    generalize w.toNat = n at hw ⊢
    generalize u.toNat = k at hw hh
    omega
  have h3 : (w.extractLsb' 0 23).toNat = h.toNat % 1024 * 8192 := by
    rw [BitVec.extractLsb'_toNat, Nat.shiftRight_eq_div_pow]
    generalize w.toNat = n at hw ⊢
    generalize u.toNat = k at hw hh
    omega
  rw [show Ideal.ofBits .f32 w = Ideal.ieee 8 23 w from rfl,
    ieee_normal 8 23 w _ _ _ h1 h2 h3 (by norm_num; omega) (by omega), EReal.coe_eq_coe_iff]
  have e1 : (((h.toNat / 1024 % 32 + 112 : ℕ) : ℤ) - (2 ^ (8 - 1) - 1) - ((23 : ℕ) : ℤ)) = ((h.toNat / 1024 % 32 : ℕ) - 25 : ℤ) + (-13) := by
    push_cast; ring
  rw [e1, zpow_add₀ (by norm_num)]
  push_cast
  norm_num
  ring

/-- The float constant of a positive power of two. -/
theorem const_eq (b : BitVec 32) (neg : Bool) (ex : ℕ) (h1 : (b.extractLsb' 31 1 == 1#1) = neg) (h2 : (b.extractLsb' 23 8).toNat = ex)
    (h3 : (b.extractLsb' 0 23).toNat = 0) (hx : ex ≠ 255) (h0 : ex ≠ 0) :
    Ideal.ofBits .f32 b = (((if neg then -1 else 1) * 2 ^ ((ex : ℤ) - 127) : ℝ) : EReal) := by
  rw [show Ideal.ofBits .f32 b = Ideal.ieee 8 23 b from rfl, ieee_normal 8 23 b neg ex 0 h1 h2 h3 (by norm_num; exact hx) h0,
    EReal.coe_eq_coe_iff, show ((ex : ℤ) - (2 ^ (8 - 1) - 1) - ((23 : ℕ) : ℤ)) = ((ex : ℤ) - 127) + (-23) by push_cast; ring,
    zpow_add₀ (by norm_num)]
  push_cast
  norm_num
  ring_nf

/-- The pattern of 1. -/
theorem const_one : Ideal.ofBits .f32 0x3F800000#32 = 1 := by
  rw [const_eq _ false 127 (by decide) (by decide) (by decide) (by decide) (by decide)]; norm_num
/-- The pattern of -1. -/
theorem const_neg_one : Ideal.ofBits .f32 0xBF800000#32 = ((-1 : ℝ) : EReal) := by
  rw [const_eq _ true 127 (by decide) (by decide) (by decide) (by decide) (by decide)]; norm_num
/-- The pattern of 2 to the power -10. -/
theorem const_m10 : Ideal.ofBits .f32 0x3A800000#32 = ((2 ^ (-10 : ℤ) : ℝ) : EReal) := by
  rw [const_eq _ false 117 (by decide) (by decide) (by decide) (by decide) (by decide)]; norm_num
/-- The pattern of 2 to the power -14. -/
theorem const_m14 : Ideal.ofBits .f32 0x38800000#32 = ((2 ^ (-14 : ℤ) : ℝ) : EReal) := by
  rw [const_eq _ false 113 (by decide) (by decide) (by decide) (by decide) (by decide)]; norm_num
/-- The pattern of 2 to the power -15. -/
theorem const_m15 : Ideal.ofBits .f32 0x38000000#32 = ((2 ^ (-15 : ℤ) : ℝ) : EReal) := by
  rw [const_eq _ false 112 (by decide) (by decide) (by decide) (by decide) (by decide)]; norm_num

/-- The word of zero bits denotes zero. -/
theorem const_zero : Ideal.ofBits .f32 0x00000000#32 = 0 := by
  rw [show Ideal.ofBits .f32 0x00000000#32 = Ideal.ieee 8 23 0x00000000#32 from rfl,
    ieee_subnormal 8 23 _ false 0 (by decide) (by decide) (by decide) (by norm_num)]
  simp

/-- The kernel's scale of a word is the number its upper half denotes, for a finite half; the lower half does not matter. -/
theorem kernel_eq (u : BitVec 32) (h : BitVec 16) (hu : u.extractLsb' 16 16 = h) (hf : Finite h) : kernel u = half h := by
  have hh : h.toNat = u.toNat / 65536 := by
    rw [← hu]; have := u.isLt; simp only [BitVec.extractLsb'_toNat, Nat.shiftRight_eq_div_pow]; omega
  have hs : IntOp.cmpi .slt u 0#32 = 1 ↔ h.toNat / 32768 = 1 := by
    have hlt := u.isLt
    rw [slt_zero, hh]
    omega
  unfold kernel
  rw [word_value u h hu hf, half_eq h hf, const_m14, const_neg_one, show Ideal.ofBits .f32 0x3F800000#32 = ((1 : ℝ) : EReal) from const_one]
  have hi : (if IntOp.cmpi .slt u 0#32 = 1 then (((-1 : ℝ) : EReal) : Ideal .f32) else ((1 : ℝ) : EReal))
      = (((if h.toNat / 32768 = 1 then -1 else 1 : ℝ)) : EReal) := by
    by_cases hb : h.toNat / 32768 = 1
    · rw [if_pos (hs.2 hb), if_pos hb]
    · rw [if_neg (fun hc => hb (hs.1 hc)), if_neg hb]
  rw [hi]
  obtain ⟨e, m, he, hm, h1, h2⟩ := half_cases h hf
  rw [h1, h2]
  rw [← EReal.coe_add, ← EReal.coe_sub, ← EReal.coe_strictMono.monotone.map_min, ← EReal.coe_mul, mul_comm]
  congr 2
  have hm' : (m : ℝ) < 1024 := by exact_mod_cast hm
  by_cases hz : e = 0
  · subst hz
    rw [if_pos rfl, min_eq_right]
    · push_cast; norm_num; ring
    · push_cast; norm_num; linarith
  · rw [if_neg hz, min_eq_left]
    have hp : (2 : ℝ) ^ (-24 : ℤ) ≤ 2 ^ ((e : ℤ) - 25) := zpow_le_zpow_right₀ (by norm_num) (by omega)
    have hm0 : (0 : ℝ) ≤ m := Nat.cast_nonneg m
    have : (2 : ℝ) ^ (-14 : ℤ) = 1024 * 2 ^ (-24 : ℤ) := by norm_num
    rw [this]
    push_cast
    have h3 : 1024 * (2 : ℝ) ^ (-24 : ℤ) ≤ (1024 + m) * 2 ^ ((e : ℤ) - 25) :=
      mul_le_mul (by linarith) hp (by positivity) (by linarith)
    linarith

/-! ## The reference's decode -/

/-- The reference's scale of a 16-bit word: the fraction of a subnormal, or one plus the fraction times a power of two,
    or the special value, with the word's sign. -/
def reference (h : BitVec 16) : EReal :=
  let x : BitVec 32 := h.signExtend 32
  let e : BitVec 32 := IntOp.andi (IntOp.shrsi .host x 10#32) 31#32
  let f : EReal := (((IntOp.andi x 1023#32).toInt : ℝ) : EReal) * Ideal.ofBits .f32 0x3A800000#32
  let mag : EReal := if IntOp.cmpi .eq e 0#32 = 1 then f * Ideal.ofBits .f32 0x38800000#32
    else if IntOp.cmpi .eq e 31#32 = 1 then
      (if Ideal.cmp .oeq f (Ideal.ofBits .f32 0x00000000#32) = 1 then Ideal.ofBits .f32 0x7F800000#32 else Ideal.ofBits .f32 0x7FC00000#32)
    else (Ideal.ofBits .f32 0x3F800000#32 + f)
      * ((((IntOp.shli .host 1#32 e).toInt : ℝ) : EReal) * Ideal.ofBits .f32 0x38000000#32)
  if IntOp.cmpi .slt x 0#32 = 1 then -mag else mag

/-- The exponent bits of a word, as the host's integer operations read them. -/
theorem exponent_eq (h : BitVec 16) : IntOp.andi (IntOp.shrsi .host (h.signExtend 32) 10#32) 31#32 = (h.extractLsb' 10 5).setWidth 32 := by
  unfold IntOp.andi IntOp.shrsi
  rw [if_pos (by decide)]
  apply BitVec.eq_of_getLsbD_eq
  intro i hi
  interval_cases i <;> simp [BitVec.getElem_sshiftRight, BitVec.getElem_signExtend]

/-- The reference's scale of a finite word is the number the word denotes. -/
theorem reference_eq (h : BitVec 16) (hf : Finite h) : reference h = half h := by
  have hlt := h.isLt
  have hxt : (h.signExtend 32).toNat = h.toNat + if 32768 ≤ h.toNat then 4294901760 else 0 := by
    rw [BitVec.toNat_signExtend]
    simp only [BitVec.msb_eq_decide, BitVec.toNat_setWidth]
    by_cases hb : 32768 ≤ h.toNat
    · rw [if_pos (by simpa using hb), if_pos hb]; omega
    · rw [if_neg (by simpa using hb), if_neg hb]; omega
  have hs : IntOp.cmpi .slt (h.signExtend 32) 0#32 = 1 ↔ h.toNat / 32768 = 1 := by
    rw [slt_zero, hxt]; split_ifs <;> omega
  have he := exponent_eq h
  have hm : IntOp.andi (h.signExtend 32) 1023#32 = (h.extractLsb' 0 10).setWidth 32 := by
    unfold IntOp.andi
    apply BitVec.eq_of_getLsbD_eq
    intro i hi
    interval_cases i <;> simp [BitVec.getElem_signExtend]
  have het : ((h.extractLsb' 10 5).setWidth 32).toNat = h.toNat / 1024 % 32 := by
    simp only [BitVec.toNat_setWidth, BitVec.extractLsb'_toNat, Nat.shiftRight_eq_div_pow]; omega
  have hmt : ((h.extractLsb' 0 10).setWidth 32).toInt = ((h.toNat % 1024 : ℕ) : ℤ) := by
    rw [BitVec.toInt_eq_toNat_of_lt]
    · congr 1
    · simp only [BitVec.toNat_setWidth, BitVec.extractLsb'_toNat, Nat.shiftRight_eq_div_pow]; omega
  have hcmp : ∀ k : ℕ, k < 32 → (IntOp.cmpi .eq ((h.extractLsb' 10 5).setWidth 32) (BitVec.ofNat 32 k) = 1 ↔ h.toNat / 1024 % 32 = k) := by
    intro k hk
    unfold IntOp.cmpi
    rw [← het]
    by_cases hb : (h.extractLsb' 10 5).setWidth 32 = BitVec.ofNat 32 k
    · simp only [hb, beq_self_eq_true]
      exact ⟨fun _ => by rw [BitVec.toNat_ofNat]; omega, fun _ => rfl⟩
    · simp only [beq_eq_false_iff_ne.2 hb]
      refine ⟨fun hc => absurd hc (by decide), fun hc => absurd (BitVec.eq_of_toNat_eq ?_) hb⟩
      rw [hc, BitVec.toNat_ofNat]; omega
  have hsh : (IntOp.shli .host 1#32 ((h.extractLsb' 10 5).setWidth 32)).toInt = ((2 ^ (h.toNat / 1024 % 32) : ℕ) : ℤ) := by
    unfold Finite at hf
    have hp : (2 : ℕ) ^ (h.toNat / 1024 % 32) ≤ 2 ^ 30 := Nat.pow_le_pow_right (by decide) (by omega)
    unfold IntOp.shli
    rw [if_pos (by rw [het]; omega)]
    have ht : (1#32 <<< (h.extractLsb' 10 5).setWidth 32).toNat = 2 ^ (h.toNat / 1024 % 32) := by
      rw [BitVec.shiftLeft_eq', het, BitVec.toNat_shiftLeft, Nat.shiftLeft_eq]
      simp only [BitVec.toNat_ofNat]
      rw [Nat.mod_eq_of_lt (by omega)]; omega
    rw [BitVec.toInt_eq_toNat_of_lt (by rw [ht]; omega), ht]
  have h31 : ¬ IntOp.cmpi .eq ((h.extractLsb' 10 5).setWidth 32) 31#32 = 1 := fun hc => hf ((hcmp 31 (by decide)).1 hc)
  unfold reference
  dsimp only
  rw [he, hm, hmt, hsh, if_neg h31, const_m10, const_m14, const_m15, show Ideal.ofBits .f32 0x3F800000#32 = ((1 : ℝ) : EReal) from const_one,
    half_eq h hf]
  obtain ⟨e, m, he', hm', h1, h2⟩ := half_cases h hf
  rw [h1, h2]
  have hmag : (if IntOp.cmpi .eq ((h.extractLsb' 10 5).setWidth 32) 0#32 = 1 then
        ((((m : ℕ) : ℤ) : ℝ) : EReal) * ((2 ^ (-10 : ℤ) : ℝ) : EReal) * ((2 ^ (-14 : ℤ) : ℝ) : EReal)
      else (((1 : ℝ) : EReal) + ((((m : ℕ) : ℤ) : ℝ) : EReal) * ((2 ^ (-10 : ℤ) : ℝ) : EReal))
        * (((((2 ^ e : ℕ) : ℤ) : ℝ) : EReal) * ((2 ^ (-15 : ℤ) : ℝ) : EReal)))
      = ((if e = 0 then (m : ℝ) * 2 ^ (-24 : ℤ) else ((1024 + m : ℕ) : ℝ) * 2 ^ ((e : ℤ) - 25) : ℝ) : EReal) := by
    by_cases hz : e = 0
    · rw [if_pos ((hcmp 0 (by decide)).2 (h1.trans hz)), if_pos hz, ← EReal.coe_mul, ← EReal.coe_mul, EReal.coe_eq_coe_iff, mul_assoc]
      norm_num
    · rw [if_neg (fun hc => hz (h1.symm.trans ((hcmp 0 (by decide)).1 hc))), if_neg hz, ← EReal.coe_mul, ← EReal.coe_mul, ← EReal.coe_add,
        ← EReal.coe_mul, EReal.coe_eq_coe_iff, sub_eq_add_neg, zpow_add₀ (by norm_num), zpow_natCast]
      push_cast
      norm_num
      ring
  rw [hmag]
  by_cases hb : h.toNat / 32768 = 1
  · rw [if_pos (hs.2 hb), if_pos hb, ← EReal.coe_neg, EReal.coe_eq_coe_iff]; ring
  · rw [if_neg (fun hc => hb (hs.1 hc)), if_neg hb, one_mul]

end Cert.Scale
-- ==== Proof.Body.lean ====
/- What one grid point of the kernel leaves in its output block, as plain vector operations: twenty steps over the
   contracted axis, each a product with a tile of decoded weights, then the gated activation. -/
module

public import proofs.«01_k».proof.Proof.Decode
public import proofs.«01_k».proof.Proof.Gen.KernelIdeal.Value
public import Idealize.ShloMosaic.Lib.Tactic
public import Idealize.ShloMosaic.Lib.Pipeline.ReadBack

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- The two zero offsets are zero on every axis. -/
theorem hz : (![0, 0] : Fin 2 → Nat) = fun _ => 0 := funext fun a => by fin_cases a <;> rfl

/-! ## One step over the contracted axis -/

/-- The scales of the even blocks of 32 weights, one row per pair of blocks, from the block of scale words. -/
def even (d : Vec F S256x160 .i16) : FVec F S80x256 .f32 := k0_pay3 d

/-- The scales of the odd blocks. -/
def odd (d : Vec F S256x160 .i16) : FVec F S80x256 .f32 :=
  k0_pay7 (k0_pay4 d) (k0_pay5 d) (Scalar.ofBits .f32 0x3F800000#32) k0_pay6

/-- One row of a scale table. -/
def row (s : Vec F S80x256 .f32) (r : ℕ) (hr : r < 80) : Vec F S1x256 .f32 :=
  View.ld s (Rect.unit (s := S80x256) ![r, 0] S1x256.size (fun a => by
    match a with
    | ⟨0, _⟩ => show r + 1 ≤ 80; omega
    | ⟨1, _⟩ => exact Nat.le_refl 256))

/-- The `k`-th tile of 256 columns of the activations. -/
def xTile (x : Vec F S96x5120 .bf16) (k : ℕ) (hk : k < 20) : Vec F S96x256 .bf16 :=
  View.ld x (Rect.unit (s := S96x5120) ![0, 256 * k] S96x256.size (fun a => by
    match a with
    | ⟨0, _⟩ => exact Nat.le_refl 96
    | ⟨1, _⟩ => show 256 * k + 256 ≤ 5120; omega))

/-- The `k`-th tile of 256 columns of the weight codes. -/
def qTile (q : Vec F S256x5120 .i8) (k : ℕ) (hk : k < 20) : Vec F S256x256 .i8 :=
  View.ld q (Rect.unit (s := S256x5120) ![0, 256 * k] S256x256.size (fun a => by
    match a with
    | ⟨0, _⟩ => exact Nat.le_refl 256
    | ⟨1, _⟩ => show 256 * k + 256 ≤ 5120; omega))

/-- The codes of a tile, transposed, as numbers. -/
def codes (q : Vec F S256x256 .i8) : FVec F S256x256 .f32 := k0_pay17 q

/-- Thirty-two rows of a tile, each times its column's scale. -/
def scaled (w : FVec F S32x256 .f32) (s : Vec F S1x256 .f32) : FVec F S32x256 .bf16 :=
  truncf .bf16 (mulf w (broadcastTo S32x256 s broadcasts_S1x256_S32x256)) bitsLt_bf16_f32

/-- A tile of decoded weights: eight groups of thirty-two rows, the scales taken in turn from the even and the odd table. -/
def tile (q : Vec F S256x256 .i8) (r0 r1 r2 r3 r4 r5 r6 r7 : Vec F S1x256 .f32) : FVec F S256x256 .bf16 :=
  concatenate S256x256 0
    [⟨S32x256, scaled (extractStridedSlice S32x256 ![0, 0] (codes q) slices_S256x256_o0_0_S32x256) r0⟩,
     ⟨S32x256, scaled (extractStridedSlice S32x256 ![32, 0] (codes q) slices_S256x256_o32_0_S32x256) r1⟩,
     ⟨S32x256, scaled (extractStridedSlice S32x256 ![64, 0] (codes q) slices_S256x256_o64_0_S32x256) r2⟩,
     ⟨S32x256, scaled (extractStridedSlice S32x256 ![96, 0] (codes q) slices_S256x256_o96_0_S32x256) r3⟩,
     ⟨S32x256, scaled (extractStridedSlice S32x256 ![128, 0] (codes q) slices_S256x256_o128_0_S32x256) r4⟩,
     ⟨S32x256, scaled (extractStridedSlice S32x256 ![160, 0] (codes q) slices_S256x256_o160_0_S32x256) r5⟩,
     ⟨S32x256, scaled (extractStridedSlice S32x256 ![192, 0] (codes q) slices_S256x256_o192_0_S32x256) r6⟩,
     ⟨S32x256, scaled (extractStridedSlice S32x256 ![224, 0] (codes q) slices_S256x256_o224_0_S32x256) r7⟩]
    concatenates_S32x256_S32x256_S32x256_S32x256_S32x256_S32x256_S32x256_S32x256_S256x256_d0

/-- The decoded weights of step `k`. -/
def weights (q : Vec F S256x5120 .i8) (se so : Vec F S80x256 .f32) (k : ℕ) (hk : k < 20) : FVec F S256x256 .bf16 :=
  tile (qTile q k hk)
    (row se (4 * k) (by omega)) (row so (4 * k) (by omega)) (row se (4 * k + 1) (by omega)) (row so (4 * k + 1) (by omega))
    (row se (4 * k + 2) (by omega)) (row so (4 * k + 2) (by omega)) (row se (4 * k + 3) (by omega)) (row so (4 * k + 3) (by omega))

/-- Step `k`: the accumulator plus the tile of activations times the tile of decoded weights. -/
def step (x : Vec F S96x5120 .bf16) (q : Vec F S256x5120 .i8) (se so : Vec F S80x256 .f32) (k : ℕ) (hk : k < 20)
    (acc : FVec F S96x256 .f32) : FVec F S96x256 .f32 :=
  addf acc (matmul dot_S96x256_S256x256_S96x256_1_0_0_1_n_n none
    (shapeCast S96x256 (xTile x k hk) shapeCasts_S96x256_S96x256) (weights q se so k hk) (constant S96x256 .f32 0x00000000#32))

/-- The twenty steps, from zero. -/
def product (x : Vec F S96x5120 .bf16) (q : Vec F S256x5120 .i8) (se so : Vec F S80x256 .f32) : FVec F S96x256 .f32 :=
  step x q se so 19 (by decide) <|
  step x q se so 18 (by decide) <|
  step x q se so 17 (by decide) <|
  step x q se so 16 (by decide) <|
  step x q se so 15 (by decide) <|
  step x q se so 14 (by decide) <|
  step x q se so 13 (by decide) <|
  step x q se so 12 (by decide) <|
  step x q se so 11 (by decide) <|
  step x q se so 10 (by decide) <|
  step x q se so 9 (by decide) <|
  step x q se so 8 (by decide) <|
  step x q se so 7 (by decide) <|
  step x q se so 6 (by decide) <|
  step x q se so 5 (by decide) <|
  step x q se so 4 (by decide) <|
  step x q se so 3 (by decide) <|
  step x q se so 2 (by decide) <|
  step x q se so 1 (by decide) <|
  step x q se so 0 (by decide) <|
  broadcast S96x256 (Scalar.ofBits .f32 0x00000000#32)

/-- The gated activation: `g · logistic g · u`, rounded to the result's format. -/
def gated (g u : FVec F S96x256 .f32) : FVec F S96x256 .bf16 :=
  truncf .bf16 (mulf (mulf g (logistic g)) u) bitsLt_bf16_f32

/-- WHAT THE BODY LEAVES in the output block: the gated activation of the two products of its input blocks. -/
theorem out_A (c : Dev nD) (i : grid0.Coords) (a1) (h1) (a2) (h2) (a3) (h3) (a4) (h4) (a5) (h5) (a6) (h6) (a7) (h7) (a8) (h8) (a9) (h9) (a10) (h10)
    (x0 : Vec F S96x5120 .bf16) (x1 : Vec F S256x5120 .i8) (x2 : Vec F S256x160 .i16) (x3 : Vec F S256x5120 .i8) (x4 : Vec F S256x160 .i16) :
    out0_A_5 c i a1 h1 a2 h2 a3 h3 a4 h4 a5 h5 a6 h6 a7 h7 a8 h8 a9 h9 a10 h10 x0 x1 x2 x3 x4
      = gated (product x0 x1 (even x2) (odd x2)) (product x0 x3 (even x4) (odd x4)) := by
  unfold out0_A_5
  rw [View.read_writes_eq_canon _ _ _ (cover0_A_5 c i a1 h1 a2 h2 a3 h3 a4 h4 a5 h5 a6 h6 a7 h7 a8 h8 a9 h9 a10 h10 x0 x1 x2 x3 x4)]
  unfold kernelRun0_A
  dsimp only
  rw [View.canon_unit_zero hz]
  sl_unfold_words
  simp only [View.readAt_eq_ld, h1.read_unread, h2.read_unread, h3.read_unread, h4.read_unread, h5.read_unread,
    View.ld_unit_zero (S := S256x160) hz]
  have hc : ∀ a : Fin S80x256.rank, (![0, 0] : Fin 2 → ℕ) a = 0 := fun a => by fin_cases a <;> rfl
  simp only [↓View.readCov_fill _ _ _ _ _ hc]
  rfl

end Cert.KernelIdeal.Body
-- ==== Proof.Point.lean ====
/- The kernel's output block read at one index, over the extended reals: each of the two products is a plain sum over
   the 5120 contracted positions, of an activation times a weight code times the scale of the code's block. -/
module

public import proofs.«01_k».proof.Proof.Body
public import proofs.«01_k».proof.Proof.Decode
public import Idealize.ShloMosaic.Lib.MatmulPlain
public import Idealize.ShloMosaic.Lib.BitcastPair

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx
open scoped BigOperators

/-! ## The scale tables -/

/-- A 32-bit word of a column holds the scale words of two neighbouring blocks: the odd one above the even one. -/
theorem words (d : Vec Ideal S256x160 .i16) (r : Fin 80) (n : Fin 256) :
    k0_pay2 d (ix2 r n) = (d (ix2 n ⟨2 * r.val + 1, by omega⟩) : BitVec 16) ++ (d (ix2 n ⟨2 * r.val, by omega⟩) : BitVec 16) := by
  have hT : ∀ p : Fin 160, transpose S160x256 [1, 0] d transposes_S256x160_p1_0_S160x256 (ix2 p n) = d (ix2 n p) := fun p =>
    transpose_apply _ _ _ _ _ (fun b => by match b with | ⟨0, _⟩ => rfl | ⟨1, _⟩ => rfl)
  show bitcast S80x256 32 (transpose S160x256 [1, 0] d transposes_S256x160_p1_0_S160x256) bitcasts_S160x256_w16_S80x256_w32 (ix2 r n) = _
  rw [bitcast_16_32, ← hT, ← hT]
  congr 1 <;> congr 1 <;> funext a <;> apply Fin.ext <;> match a with | ⟨0, _⟩ => rfl | ⟨1, _⟩ => rfl

/-- The upper half of a pair of halves. -/
theorem hi_append (a b : BitVec 16) : (a ++ b).extractLsb' 16 16 = a := by
  apply BitVec.eq_of_getLsbD_eq
  intro i hi
  rw [BitVec.getLsbD_extractLsb', BitVec.getLsbD_append, if_neg (by omega), show 16 + i - 16 = i by omega]
  simp [hi]

/-- The upper half of a pair of halves shifted up by sixteen is the lower one. -/
theorem lo_append (a b : BitVec 16) : (IntOp.shli .vector (a ++ b) 16#32).extractLsb' 16 16 = b := by
  unfold IntOp.shli
  rw [if_pos (by decide)]
  apply BitVec.eq_of_getLsbD_eq
  intro i hi
  rw [BitVec.getLsbD_extractLsb', BitVec.shiftLeft_eq', show (16#32).toNat = 16 from rfl, BitVec.getLsbD_shiftLeft, BitVec.getLsbD_append]
  rw [if_pos (by omega), show 16 + i - 16 = i by omega]
  simp [hi]; omega

/-- The kernel's sign and limit at an index. -/
theorem limited_apply {s : Shape} (v : FVec Ideal s .f32) (m : IVec s 1) (c a b : EReal) (j : s.Idx) :
    mulf (minimumf v (subf (addf v v) (broadcast s c))) (select m (broadcast s a) (broadcast s b)) j
      = min (v j) (v j + v j - c) * (if m j = 1 then a else b) := rfl

/-- A float's word at an index. -/
theorem float_apply {s : Shape} (u : IVec s 32) (j : s.Idx) : (bitcastToFloat .f32 u : FVec Ideal s .f32) j = Ideal.ofBits .f32 (u j) := rfl

/-- The kernel's magnitude word at an index. -/
theorem word_apply {s : Shape} (w : IVec s 32) (j : s.Idx) :
    addi (andi (shrsi w (broadcast s 3#32)) (broadcast s 268427264#32)) (broadcast s 939524096#32) j = Cert.Scale.word (w j) := rfl

/-- The kernel's decode of a table of words, word by word. -/
theorem decode_apply {s : Shape} (w : IVec s 32) (j : s.Idx) :
    mulf (minimumf (bitcastToFloat .f32 (addi (andi (shrsi w (broadcast s 3#32)) (broadcast s 268427264#32)) (broadcast s 939524096#32)))
        (subf (addf (bitcastToFloat .f32 (addi (andi (shrsi w (broadcast s 3#32)) (broadcast s 268427264#32)) (broadcast s 939524096#32)))
            (bitcastToFloat .f32 (addi (andi (shrsi w (broadcast s 3#32)) (broadcast s 268427264#32)) (broadcast s 939524096#32))))
          (broadcast s (Ideal.ofBits .f32 0x38800000#32))))
      (select (cmpi .slt w (broadcast s 0#32)) (broadcast s (Ideal.ofBits .f32 0xBF800000#32)) (broadcast s (Ideal.ofBits .f32 0x3F800000#32))) j
      = Cert.Scale.kernel (w j) := by
  refine (limited_apply _ _ _ _ _ j).trans ?_
  rw [float_apply, word_apply]
  rfl

/-- The even table, word by word. -/
theorem even_words (d : Vec Ideal S256x160 .i16) (j : S80x256.Idx) :
    even d j = Cert.Scale.kernel (IntOp.shli .vector (k0_pay2 d j) 16#32) := by
  unfold even k0_pay3
  rw [shapeCast_self]
  exact decode_apply _ j

/-- The odd table, word by word. -/
theorem odd_words (d : Vec Ideal S256x160 .i16) (j : S80x256.Idx) : odd d j = Cert.Scale.kernel (k0_pay2 d j) := by
  unfold odd k0_pay7 k0_pay4 k0_pay5 k0_pay6
  rw [shapeCast_self]
  exact decode_apply _ j

/-- The even table: the number its scale word denotes, when that is finite. -/
theorem even_apply (d : Vec Ideal S256x160 .i16) (r : Fin 80) (n : Fin 256) (p : Fin 160) (hp : p.val = 2 * r.val) (hf : Cert.Scale.Finite (d (ix2 n p))) :
    even d (ix2 r n) = Cert.Scale.half (d (ix2 n p)) := by
  have e : p = ⟨2 * r.val, by have := r.isLt; clear hp; omega⟩ := Fin.ext hp
  subst e
  rw [even_words]
  exact Cert.Scale.kernel_eq _ _ (by rw [words]; exact lo_append _ _) hf

/-- The odd table. -/
theorem odd_apply (d : Vec Ideal S256x160 .i16) (r : Fin 80) (n : Fin 256) (p : Fin 160) (hp : p.val = 2 * r.val + 1) (hf : Cert.Scale.Finite (d (ix2 n p))) :
    odd d (ix2 r n) = Cert.Scale.half (d (ix2 n p)) := by
  have e : p = ⟨2 * r.val + 1, by have := r.isLt; clear hp; omega⟩ := Fin.ext hp
  subst e
  rw [odd_words]
  exact Cert.Scale.kernel_eq _ _ (by rw [words]; exact hi_append _ _) hf

/-! ## The tiles -/

/-- A row of a scale table at a column. -/
theorem row_apply (s : Vec Ideal S80x256 .f32) (r : ℕ) (hr : r < 80) (j : Fin 256) : row s r hr (ix2 0 j) = s (ix2 ⟨r, hr⟩ j) :=
  congrArg s (funext fun a => Fin.ext (by
    match a with
    | ⟨0, _⟩ => exact (Nat.mul_zero 1 ▸ rfl : r + 1 * 0 = r)
    | ⟨1, _⟩ => show 0 + 1 * j.val = j.val; omega))

/-- A tile of the activations at an index. -/
theorem xTile_apply (x : Vec Ideal S96x5120 .bf16) (k : ℕ) (hk : k < 20) (b : Fin 96) (i : Fin 256) :
    xTile x k hk (ix2 b i) = x (ix2 b ⟨256 * k + i.val, by omega⟩) :=
  congrArg x (funext fun a => Fin.ext (by
    match a with
    | ⟨0, _⟩ => show 0 + 1 * b.val = b.val; omega
    | ⟨1, _⟩ => show 256 * k + 1 * i.val = 256 * k + i.val; omega))

/-- A tile of the weight codes at an index. -/
theorem qTile_apply (q : Vec Ideal S256x5120 .i8) (k : ℕ) (hk : k < 20) (n i : Fin 256) :
    qTile q k hk (ix2 n i) = q (ix2 n ⟨256 * k + i.val, by omega⟩) :=
  congrArg q (funext fun a => Fin.ext (by
    match a with
    | ⟨0, _⟩ => show 0 + 1 * n.val = n.val; omega
    | ⟨1, _⟩ => show 256 * k + 1 * i.val = 256 * k + i.val; omega))

/-- The number a weight code denotes. -/
def code (b : BitVec 8) : EReal := ((b.toInt : ℝ) : EReal)

/-- The transposed codes at an index. -/
theorem codes_apply (q : Vec Ideal S256x256 .i8) (i n : Fin 256) : codes q (ix2 i n) = code (q (ix2 n i)) := by
  have hT : transpose S256x256 [1, 0] q transposes_S256x256_p1_0_S256x256 (ix2 i n) = q (ix2 n i) :=
    transpose_apply _ _ _ _ _ (fun b => by match b with | ⟨0, _⟩ => rfl | ⟨1, _⟩ => rfl)
  exact congrArg code hT

/-- Thirty-two scaled rows at an index. -/
theorem scaled_apply (w : FVec Ideal S32x256 .f32) (s : Vec Ideal S1x256 .f32) (i : Fin 32) (n : Fin 256) :
    scaled w s (ix2 i n) = w (ix2 i n) * s (ix2 0 n) := by
  have hs : broadcastTo S32x256 s broadcasts_S1x256_S32x256 (ix2 i n) = s (ix2 0 n) :=
    congrArg s (funext fun a => Fin.ext (by match a with | ⟨0, _⟩ => rfl | ⟨1, _⟩ => rfl))
  exact congrArg (w (ix2 i n) * ·) hs

/-- A tile of decoded weights at an index: the code times the scale of its group of thirty-two. -/
theorem tile_apply (q : Vec Ideal S256x256 .i8) (r : Fin 8 → Vec Ideal S1x256 .f32) (i n : Fin 256) :
    tile q (r 0) (r 1) (r 2) (r 3) (r 4) (r 5) (r 6) (r 7) (ix2 i n)
      = code (q (ix2 n i)) * r ⟨i.val / 32, by omega⟩ (ix2 0 n) := by
  have hsl : ∀ g : Fin 8, S256x256.Slices ![32 * g.val, 0] S32x256 := by decide
  let f : Fin 8 → (S32x256.Idx → EReal) := fun g => scaled (extractStridedSlice S32x256 ![32 * g.val, 0] (codes q) (hsl g)) (r g)
  have e := concatenate_ofFn_apply (t := S256x256) (s₁ := S32x256) 0 f
    concatenates_S32x256_S32x256_S32x256_S32x256_S32x256_S32x256_S32x256_S32x256_S256x256_d0 rfl 32 rfl (ix2 i n)
    ⟨i.val / 32, by omega⟩ rfl (ix2 ⟨i.val % 32, by omega⟩ n) rfl
    (fun b hb => by match b, hb with | ⟨0, _⟩, hb => exact absurd rfl hb | ⟨1, _⟩, _ => rfl)
  refine Eq.trans ?_ (e.trans ?_)
  · rfl
  · show scaled _ _ _ = _
    rw [scaled_apply, ← codes_apply]
    refine congrArg (· * _) (congrArg (codes q) (funext fun a => Fin.ext ?_))
    match a with
    | ⟨0, _⟩ => show 32 * (i.val / 32) + i.val % 32 = i.val; omega
    | ⟨1, _⟩ => show 0 + n.val = n.val; omega

/-- The decoded weight of column `n` at contracted position `t`: its code times the number its block's scale word denotes. -/
def weight (q : Vec Ideal S256x5120 .i8) (d : Vec Ideal S256x160 .i16) (n : Fin 256) (t : Fin 5120) : EReal :=
  code (q (ix2 n t)) * Cert.Scale.half (d (ix2 n ⟨t.val / 32, by omega⟩))

/-- A row of the even table, under the number of its block. -/
theorem row_even (d : Vec Ideal S256x160 .i16) (hd : ∀ j, Cert.Scale.Finite (d j)) (n : Fin 256) (r : ℕ) (hr : r < 80) (p : Fin 160)
    (hp : p.val = 2 * r) : row (even d) r hr (ix2 0 n) = Cert.Scale.half (d (ix2 n p)) := by
  rw [row_apply, even_apply d ⟨r, hr⟩ n p hp (hd _)]

/-- A row of the odd table, under the number of its block. -/
theorem row_odd (d : Vec Ideal S256x160 .i16) (hd : ∀ j, Cert.Scale.Finite (d j)) (n : Fin 256) (r : ℕ) (hr : r < 80) (p : Fin 160)
    (hp : p.val = 2 * r + 1) : row (odd d) r hr (ix2 0 n) = Cert.Scale.half (d (ix2 n p)) := by
  rw [row_apply, odd_apply d ⟨r, hr⟩ n p hp (hd _)]

/-- The eight rows of scales that step `k` takes, the even and the odd table in turn. -/
def rows (se so : Vec Ideal S80x256 .f32) (k : ℕ) (hk : k < 20) : Fin 8 → Vec Ideal S1x256 .f32 :=
  ![row se (4 * k) (by omega), row so (4 * k) (by omega), row se (4 * k + 1) (by omega), row so (4 * k + 1) (by omega),
    row se (4 * k + 2) (by omega), row so (4 * k + 2) (by omega), row se (4 * k + 3) (by omega), row so (4 * k + 3) (by omega)]

/-- Row `g` of step `k` is the row of block `8 k + g`. -/
theorem rows_apply (se so : Vec Ideal S80x256 .f32) (n : Fin 256) (f : Fin 160 → EReal)
    (he : ∀ (r : ℕ) (hr : r < 80) (p : Fin 160), p.val = 2 * r → row se r hr (ix2 0 n) = f p)
    (ho : ∀ (r : ℕ) (hr : r < 80) (p : Fin 160), p.val = 2 * r + 1 → row so r hr (ix2 0 n) = f p)
    (k : ℕ) (hk : k < 20) (g : Fin 8) (p : Fin 160) (hp : p.val = 8 * k + g.val) : rows se so k hk g (ix2 0 n) = f p := by
  match g, hp with
  | ⟨0, _⟩, hp => exact he (4 * k) (by omega) p (by dsimp only at hp; omega)
  | ⟨1, _⟩, hp => exact ho (4 * k) (by omega) p (by dsimp only at hp; omega)
  | ⟨2, _⟩, hp => exact he (4 * k + 1) (by omega) p (by dsimp only at hp; omega)
  | ⟨3, _⟩, hp => exact ho (4 * k + 1) (by omega) p (by dsimp only at hp; omega)
  | ⟨4, _⟩, hp => exact he (4 * k + 2) (by omega) p (by dsimp only at hp; omega)
  | ⟨5, _⟩, hp => exact ho (4 * k + 2) (by omega) p (by dsimp only at hp; omega)
  | ⟨6, _⟩, hp => exact he (4 * k + 3) (by omega) p (by dsimp only at hp; omega)
  | ⟨7, _⟩, hp => exact ho (4 * k + 3) (by omega) p (by dsimp only at hp; omega)

/-- The decoded weights of step `k`, by its eight rows of scales. -/
theorem weights_eq (q : Vec Ideal S256x5120 .i8) (se so : Vec Ideal S80x256 .f32) (k : ℕ) (hk : k < 20) :
    weights q se so k hk = tile (qTile q k hk) (rows se so k hk 0) (rows se so k hk 1) (rows se so k hk 2) (rows se so k hk 3)
      (rows se so k hk 4) (rows se so k hk 5) (rows se so k hk 6) (rows se so k hk 7) := rfl

/-- The decoded weights of step `k` at an index, when the scales are finite. -/
theorem weights_apply (q : Vec Ideal S256x5120 .i8) (d : Vec Ideal S256x160 .i16) (hd : ∀ j, Cert.Scale.Finite (d j))
    (k : ℕ) (hk : k < 20) (i n : Fin 256) (t : Fin 5120) (ht : t.val = 256 * k + i.val) :
    weights q (even d) (odd d) k hk (ix2 i n) = weight q d n t := by
  rw [weights_eq, tile_apply, rows_apply (even d) (odd d) n (fun p => Cert.Scale.half (d (ix2 n p))) (row_even d hd n) (row_odd d hd n) k hk _
    ⟨t.val / 32, by omega⟩ (by show t.val / 32 = 8 * k + i.val / 32; omega), qTile_apply,
    show (⟨256 * k + i.val, by omega⟩ : Fin 5120) = t from Fin.ext ht.symm]
  rfl

/-! ## The products -/

/-- One term of the product, `0` past the contracted extent. -/
def term (x : Vec Ideal S96x5120 .bf16) (q : Vec Ideal S256x5120 .i8) (d : Vec Ideal S256x160 .i16) (b : Fin 96) (n : Fin 256) (t : ℕ) : EReal :=
  if h : t < 5120 then x (ix2 b ⟨t, h⟩) * weight q d n ⟨t, h⟩ else 0

/-- A term inside the contracted extent. -/
theorem term_lt (x : Vec Ideal S96x5120 .bf16) (q : Vec Ideal S256x5120 .i8) (d : Vec Ideal S256x160 .i16) (b : Fin 96) (n : Fin 256) (t : Fin 5120) :
    term x q d b n t.val = x (ix2 b t) * weight q d n t := dif_pos t.isLt

/-- A step extends the sum by 256 terms. -/
theorem step_range (x : Vec Ideal S96x5120 .bf16) (q : Vec Ideal S256x5120 .i8) (d : Vec Ideal S256x160 .i16) (hd : ∀ j, Cert.Scale.Finite (d j))
    (b : Fin 96) (n : Fin 256) (k : ℕ) (hk : k < 20) (acc : FVec Ideal S96x256 .f32)
    (hacc : acc (ix2 b n) = ∑ t ∈ Finset.range (256 * k), term x q d b n t) :
    step x q (even d) (odd d) k hk acc (ix2 b n) = ∑ t ∈ Finset.range (256 * (k + 1)), term x q d b n t := by
  have hm := Ideal.matmul_plain_apply (M := 96) (K := 256) (N := 256) (φ₁ := .bf16) (φ₂ := .bf16) none (shapeCast S96x256 (xTile x k hk) shapeCasts_S96x256_S96x256)
    (weights q (even d) (odd d) k hk) (constant S96x256 .f32 0x00000000#32) b n
  refine Eq.trans (b := acc (ix2 b n) + FloatOps.matmul (F := Ideal) (DotDims.plain 96 256 256) none (shapeCast S96x256 (xTile x k hk) shapeCasts_S96x256_S96x256)
    (weights q (even d) (odd d) k hk) (constant S96x256 .f32 0x00000000#32) (ix2 b n)) rfl ?_
  have h0 : (constant S96x256 .f32 0x00000000#32 : FVec Ideal S96x256 .f32) (ix2 b n) = 0 := Cert.Scale.const_zero
  rw [hm, hacc, h0, zero_add, Nat.mul_succ, Finset.sum_range_add, Finset.sum_range (n := 256)]
  refine congrArg (_ + ·) (Finset.sum_congr rfl fun i _ => ?_)
  rw [shapeCast_self, xTile_apply, weights_apply q d hd k hk i n ⟨256 * k + i.val, by omega⟩ rfl]
  exact (term_lt x q d b n _).symm

/-- THE PRODUCT at an index: the sum over the contracted axis of activation times decoded weight. -/
theorem product_apply (x : Vec Ideal S96x5120 .bf16) (q : Vec Ideal S256x5120 .i8) (d : Vec Ideal S256x160 .i16) (hd : ∀ j, Cert.Scale.Finite (d j))
    (b : Fin 96) (n : Fin 256) :
    product x q (even d) (odd d) (ix2 b n) = ∑ t : Fin 5120, x (ix2 b t) * weight q d n t := by
  have hs := fun k hk acc h => step_range x q d hd b n k hk acc h
  refine Eq.trans (b := ∑ t ∈ Finset.range 5120, term x q d b n t) ?_ ?_
  · unfold product
    refine hs 19 _ _ <| hs 18 _ _ <| hs 17 _ _ <| hs 16 _ _ <| hs 15 _ _ <| hs 14 _ _ <| hs 13 _ _ <| hs 12 _ _ <| hs 11 _ _ <| hs 10 _ _ <|
      hs 9 _ _ <| hs 8 _ _ <| hs 7 _ _ <| hs 6 _ _ <| hs 5 _ _ <| hs 4 _ _ <| hs 3 _ _ <| hs 2 _ _ <| hs 1 _ _ <| hs 0 _ _ ?_
    rw [Nat.mul_zero, Finset.sum_range_zero]
    exact Cert.Scale.const_zero
  · rw [Finset.sum_range]
    exact Finset.sum_congr rfl fun t _ => term_lt x q d b n t

/-- The gated activation of two numbers. -/
def gate (g u : EReal) : EReal := g * Ideal.logistic g * u

/-- The gated activation at an index. -/
theorem gated_apply (g u : FVec Ideal S96x256 .f32) (j : S96x256.Idx) : gated g u j = gate (g j) (u j) := rfl

end Cert.KernelIdeal.Body
-- ==== Proof.Array.lean ====
/- The kernel's result array after its run, as one function of its arguments: at row `b` and column `n` the gated
   activation of the two dot products, whichever grid point wrote that entry. -/
module

public import proofs.«01_k».proof.Proof.Point
public import proofs.«01_k».proof.Proof.Gen.KernelIdeal.Value

@[expose] public section

set_option maxRecDepth 16384

noncomputable section

namespace Cert.KernelIdeal.Array

open Cert.KernelIdeal Cert.KernelIdeal.Gen Idealize.ShloMosaic Idealize.ShloMosaic.TcCoe Idealize.SL.Sem
open Idealize.ShloMosaic.ValueIdx
open Cert.KernelIdeal.Body
open scoped BigOperators

/-! ## The formula -/

/-- Row `b` of the activations against weight row `n`: the sum of activation times code times the scale of the code's block. -/
def dot (x : Vec Ideal S96x1x5120 .bf16) (q : Vec Ideal S17920x5120 .i8) (d : Vec Ideal S17920x160 .i16) (b : Fin 96) (n : Fin 17920) : EReal :=
  ∑ t : Fin 5120, x (ix3 b 0 t) * (code (q (ix2 n t)) * Cert.Scale.half (d (ix2 n ⟨t.val / 32, by omega⟩)))

/-- The result: the gated activation of the two dot products. -/
def result (x : Vec Ideal S96x1x5120 .bf16) (qg : Vec Ideal S17920x5120 .i8) (dg : Vec Ideal S17920x160 .i16)
    (qu : Vec Ideal S17920x5120 .i8) (du : Vec Ideal S17920x160 .i16) : Vec Ideal S96x17920 .bf16 :=
  fun i => gate (dot x qg dg (i 0) (i 1)) (dot x qu du (i 0) (i 1))

/-! ## The windows' blocks -/

variable (m : (ℓ : Loc nD τ sig) → Buf (Elt Ideal) ℓ)

/-- The kernel reads the activations as the host reshaped them. -/
theorem V_v0 (c : Dev nD) : V m c main_v0 = shapeCast S96x5120 (m ((c : Thread nD τ).loc main_arg0)) shapeCasts_S96x1x5120_S96x5120 :=
  by
  unfold V
  simp only [hostOps0]
  after_results
  rfl

/-- The reshape drops the axis of extent one. -/
theorem squeeze_apply (x : Vec Ideal S96x1x5120 .bf16) (b : Fin 96) (t : Fin 5120) :
    shapeCast S96x5120 x shapeCasts_S96x1x5120_S96x5120 (ix2 b t) = x (ix3 b 0 t) :=
  shapeCast_apply _ _ _ _ (by
    refine (Shape.rowMajor_val_three (d := ![96, 1, 5120]) _).trans ((?_ : _ = _).trans (Shape.rowMajor_val_two (d := ![96, 5120]) _).symm)
    show (b.val * 1 + 0) * 5120 + t.val = b.val * 5120 + t.val
    omega)

/-- The activations are one block: its index is zero at every point. -/
theorem index0 : ∀ t : Fin grid0.N, win0_0.index t 0 = 0 ∧ win0_0.index t 1 = 0 := by decide +kernel
/-- Point `t`'s gate codes are block row `t`. -/
theorem index1 : ∀ t : Fin grid0.N, win0_1.index t 0 = t.val ∧ win0_1.index t 1 = 0 := by decide +kernel
/-- Point `t`'s gate scales are block row `t`. -/
theorem index2 : ∀ t : Fin grid0.N, win0_2.index t 0 = t.val ∧ win0_2.index t 1 = 0 := by decide +kernel
/-- Point `t`'s up codes are block row `t`. -/
theorem index3 : ∀ t : Fin grid0.N, win0_3.index t 0 = t.val ∧ win0_3.index t 1 = 0 := by decide +kernel
/-- Point `t`'s up scales are block row `t`. -/
theorem index4 : ∀ t : Fin grid0.N, win0_4.index t 0 = t.val ∧ win0_4.index t 1 = 0 := by decide +kernel
/-- Point `t`'s part of the result is block column `t`. -/
theorem index5 : ∀ t : Fin grid0.N, win0_5.index t 0 = 0 ∧ win0_5.index t 1 = t.val := by decide +kernel
/-- The grid has 70 points. -/
theorem count : grid0.N = 70 := by decide

/-- The activation block is the whole array. -/
theorem block0 (c : Dev nD) (t : Fin cfg0.N) (b : Fin 96) (k : Fin 5120) :
    iblk m c 0 t (ix2 b k) = (m ((c : Thread nD τ).loc main_arg0) : Vec Ideal S96x1x5120 .bf16) (ix3 b 0 k) := by
  refine Eq.trans ?_ (squeeze_apply _ b k)
  rw [← V_v0]
  unfold iblk
  rw [View.read_apply]
  show V m c main_v0 _ = V m c main_v0 _
  congr 1
  funext a
  apply Fin.ext
  match a with
  | ⟨0, _⟩ => show win0_0.index t 0 * 96 + 1 * b.val = b.val; rw [(index0 t).1]; omega
  | ⟨1, _⟩ => show win0_0.index t 1 * 5120 + 1 * k.val = k.val; rw [(index0 t).2]; omega

/-- Point `t`'s block of gate codes is the 256 rows from `256 t`. -/
theorem block1 (c : Dev nD) (t : Fin cfg0.N) (n : Fin 256) (k : Fin 5120) (p : Fin 17920) (hp : p.val = 256 * t.val + n.val) :
    iblk m c 1 t (ix2 n k) = (m ((c : Thread nD τ).loc main_arg1) : Vec Ideal S17920x5120 .i8) (ix2 p k) := by
  rw [← V_main_arg1 m c]
  unfold iblk
  rw [View.read_apply]
  show V m c main_arg1 _ = V m c main_arg1 _
  congr 1
  funext a
  apply Fin.ext
  match a with
  | ⟨0, _⟩ => show win0_1.index t 0 * 256 + 1 * n.val = p.val; rw [(index1 t).1]; omega
  | ⟨1, _⟩ => show win0_1.index t 1 * 5120 + 1 * k.val = k.val; rw [(index1 t).2]; omega

/-- Point `t`'s block of gate scales is the 256 rows from `256 t`. -/
theorem block2 (c : Dev nD) (t : Fin cfg0.N) (n : Fin 256) (k : Fin 160) (p : Fin 17920) (hp : p.val = 256 * t.val + n.val) :
    iblk m c 2 t (ix2 n k) = (m ((c : Thread nD τ).loc main_arg2) : Vec Ideal S17920x160 .i16) (ix2 p k) := by
  rw [← V_main_arg2 m c]
  unfold iblk
  rw [View.read_apply]
  show V m c main_arg2 _ = V m c main_arg2 _
  congr 1
  funext a
  apply Fin.ext
  match a with
  | ⟨0, _⟩ => show win0_2.index t 0 * 256 + 1 * n.val = p.val; rw [(index2 t).1]; omega
  | ⟨1, _⟩ => show win0_2.index t 1 * 160 + 1 * k.val = k.val; rw [(index2 t).2]; omega

/-- Point `t`'s block of up codes is the 256 rows from `256 t`. -/
theorem block3 (c : Dev nD) (t : Fin cfg0.N) (n : Fin 256) (k : Fin 5120) (p : Fin 17920) (hp : p.val = 256 * t.val + n.val) :
    iblk m c 3 t (ix2 n k) = (m ((c : Thread nD τ).loc main_arg3) : Vec Ideal S17920x5120 .i8) (ix2 p k) := by
  rw [← V_main_arg3 m c]
  unfold iblk
  rw [View.read_apply]
  show V m c main_arg3 _ = V m c main_arg3 _
  congr 1
  funext a
  apply Fin.ext
  match a with
  | ⟨0, _⟩ => show win0_3.index t 0 * 256 + 1 * n.val = p.val; rw [(index3 t).1]; omega
  | ⟨1, _⟩ => show win0_3.index t 1 * 5120 + 1 * k.val = k.val; rw [(index3 t).2]; omega

/-- Point `t`'s block of up scales is the 256 rows from `256 t`. -/
theorem block4 (c : Dev nD) (t : Fin cfg0.N) (n : Fin 256) (k : Fin 160) (p : Fin 17920) (hp : p.val = 256 * t.val + n.val) :
    iblk m c 4 t (ix2 n k) = (m ((c : Thread nD τ).loc main_arg4) : Vec Ideal S17920x160 .i16) (ix2 p k) := by
  rw [← V_main_arg4 m c]
  unfold iblk
  rw [View.read_apply]
  show V m c main_arg4 _ = V m c main_arg4 _
  congr 1
  funext a
  apply Fin.ext
  match a with
  | ⟨0, _⟩ => show win0_4.index t 0 * 256 + 1 * n.val = p.val; rw [(index4 t).1]; omega
  | ⟨1, _⟩ => show win0_4.index t 1 * 160 + 1 * k.val = k.val; rw [(index4 t).2]; omega

/-! ## One block of the result -/

/-- A block's product is the whole arrays' dot product at the row the block's row is. -/
theorem product_dot (x : Vec Ideal S96x5120 .bf16) (q : Vec Ideal S256x5120 .i8) (d : Vec Ideal S256x160 .i16)
    (X : Vec Ideal S96x1x5120 .bf16) (Q : Vec Ideal S17920x5120 .i8) (D : Vec Ideal S17920x160 .i16) (hD : ∀ j, Cert.Scale.Finite (D j))
    (t : ℕ) (ht : t < 70)
    (hx : ∀ b k, x (ix2 b k) = X (ix3 b 0 k))
    (hq : ∀ (n : Fin 256) (k : Fin 5120) (p : Fin 17920), p.val = 256 * t + n.val → q (ix2 n k) = Q (ix2 p k))
    (hd : ∀ (n : Fin 256) (k : Fin 160) (p : Fin 17920), p.val = 256 * t + n.val → d (ix2 n k) = D (ix2 p k))
    (b : Fin 96) (n : Fin 256) (p : Fin 17920) (hp : p.val = 256 * t + n.val) :
    product x q (even d) (odd d) (ix2 b n) = dot X Q D b p := by
  have hdf : ∀ j, Cert.Scale.Finite (d j) := fun j => by
    have e : d j = D (ix2 ⟨256 * t + (j 0).val, by have h : (j 0).val < 256 := (j 0).isLt; omega⟩ (j 1)) :=
      (congrArg d (eq_ix2 j)).trans (hd (j 0) (j 1) _ rfl)
    rw [e]
    exact hD _
  rw [product_apply x q d hdf b n]
  unfold dot weight
  exact Finset.sum_congr rfl fun k _ => by rw [hx b k, hq n k p hp, hd n _ p hp]

/-- The block the kernel writes at point `t`, entry by entry. -/
theorem out_apply (c : Dev nD) (t : Fin cfg0.N)
    (h2 : ∀ j : S17920x160.Idx, Cert.Scale.Finite ((m ((c : Thread nD τ).loc main_arg2) : Vec Ideal S17920x160 .i16) j))
    (h4 : ∀ j : S17920x160.Idx, Cert.Scale.Finite ((m ((c : Thread nD τ).loc main_arg4) : Vec Ideal S17920x160 .i16) j))
    (b : Fin 96) (n : Fin 256) (p : Fin 17920) (hp : p.val = 256 * t.val + n.val) :
    gated (F := Ideal) (product (F := Ideal) (iblk m c 0 t) (iblk m c 1 t) (even (F := Ideal) (iblk m c 2 t)) (odd (F := Ideal) (iblk m c 2 t)))
        (product (F := Ideal) (iblk m c 0 t) (iblk m c 3 t) (even (F := Ideal) (iblk m c 4 t)) (odd (F := Ideal) (iblk m c 4 t))) (ix2 b n)
      = result (m ((c : Thread nD τ).loc main_arg0)) (m ((c : Thread nD τ).loc main_arg1)) (m ((c : Thread nD τ).loc main_arg2))
          (m ((c : Thread nD τ).loc main_arg3)) (m ((c : Thread nD τ).loc main_arg4)) (ix2 b p) := by
  have ht : t.val < 70 := lt_of_lt_of_eq t.isLt count
  rw [gated_apply]
  rw [product_dot (iblk m c 0 t) (iblk m c 1 t) (iblk m c 2 t) (m ((c : Thread nD τ).loc main_arg0)) (m ((c : Thread nD τ).loc main_arg1))
      (m ((c : Thread nD τ).loc main_arg2)) h2 t.val ht (block0 m c t) (block1 m c t) (block2 m c t) b n p hp,
    product_dot (iblk m c 0 t) (iblk m c 3 t) (iblk m c 4 t) (m ((c : Thread nD τ).loc main_arg0)) (m ((c : Thread nD τ).loc main_arg3))
      (m ((c : Thread nD τ).loc main_arg4)) h4 t.val ht (block0 m c t) (block3 m c t) (block4 m c t) b n p hp]
  rfl

/-- THE KERNEL'S ARRAY: when every scale is finite, the result array is the gated activation of the two dot products. -/
theorem final (c : Dev nD)
    (h2 : ∀ j : S17920x160.Idx, Cert.Scale.Finite ((m ((c : Thread nD τ).loc main_arg2) : Vec Ideal S17920x160 .i16) j))
    (h4 : ∀ j : S17920x160.Idx, Cert.Scale.Finite ((m ((c : Thread nD τ).loc main_arg4) : Vec Ideal S17920x160 .i16) j)) :
    (dats m 0 c).arrAt 5 cfg0.N
      = result (m ((c : Thread nD τ).loc main_arg0)) (m ((c : Thread nD τ).loc main_arg1)) (m ((c : Thread nD τ).loc main_arg2))
          (m ((c : Thread nD τ).loc main_arg3)) (m ((c : Thread nD τ).loc main_arg4)) := by
  refine Pipeline.Dat.arrAt_eq_of_cover _ 5 _ (fun t _ => ?_) (fun i => ?_)
  · rw [Cert.KernelIdeal.Value.flushed5_A m c t, out_A]
    funext j
    rw [View.read_apply]
    have hj : (j 1).val < 256 := (j 1).isLt
    have ht : t.val < 70 := lt_of_lt_of_eq t.isLt count
    refine Eq.trans ?_ ((out_apply m c t h2 h4 (j 0) (j 1) ⟨256 * t.val + (j 1).val, by omega⟩ rfl).trans ?_)
    · exact congrArg (gated (F := Ideal) _ _) (eq_ix2 (n0 := 96) (n1 := 256) j)
    · congr 1
      funext a
      apply Fin.ext
      match a with
      | ⟨0, _⟩ => show (j 0).val = win0_5.index t 0 * 96 + 1 * (j 0).val; rw [(index5 t).1]; omega
      | ⟨1, _⟩ => show 256 * t.val + (j 1).val = win0_5.index t 1 * 256 + 1 * (j 1).val; rw [(index5 t).2]; omega
  · have hi0 : (i 0).val < 96 := (i 0).isLt
    have hi1 : (i 1).val < 17920 := (i 1).isLt
    have hN : (i 1).val / 256 < grid0.N := by rw [count]; omega
    refine ⟨⟨(i 1).val / 256, hN⟩, flush0_5 _, ?_⟩
    show i ∈ ((View.whole main_v1).slice (win0_5.rect ⟨(i 1).val / 256, hN⟩)).set
    rw [View.set_slice_whole, Rect.mem_set_unit]
    intro a
    match a with
    | ⟨0, _⟩ =>
      show win0_5.index ⟨(i 1).val / 256, hN⟩ 0 * 96 ≤ (i 0).val ∧ (i 0).val < win0_5.index ⟨(i 1).val / 256, hN⟩ 0 * 96 + 96
      rw [(index5 _).1]; omega
    | ⟨1, _⟩ =>
      show win0_5.index ⟨(i 1).val / 256, hN⟩ 1 * 256 ≤ (i 1).val ∧ (i 1).val < win0_5.index ⟨(i 1).val / 256, hN⟩ 1 * 256 + 256
      rw [(index5 _).2]; show (i 1).val / 256 * 256 ≤ _ ∧ _ < (i 1).val / 256 * 256 + 256; omega

end Cert.KernelIdeal.Array

end
-- ==== Proof.Reference.lean ====
/- The reference's result at one index, over the extended reals: when every scale is finite it is the same gated activation
   of the same two dot products that the kernel's result is. -/
module

public import proofs.«01_k».proof.Proof.Array
public import proofs.«01_k».proof.Proof.Gen.ReferenceIdeal.Run

@[expose] public section

set_option maxRecDepth 16384

noncomputable section

namespace Cert.ReferenceIdeal.Result

open Cert.ReferenceIdeal Cert.ReferenceIdeal.Gen Idealize.ShloMosaic Idealize.ShloMosaic.TcCoe Idealize.SL.Sem
open Idealize.ShloMosaic.ValueIdx
open scoped BigOperators

/-! ## The reference's program in pieces -/

section Pieces
variable {F : FTy → Type} [FloatOps F]

/-- The scales decoded from their widened words, the constants given as arrays. -/
def decode {s : Shape} (x z i1 i10 i31 i1023 : IVec s 32) (fs fn fz finf fnan f1 fx : FVec F s .f32) : FVec F s .f32 :=
  let e := andi (Host.shrsi x i10) i31
  let f := mulf (sitofp .f32 (andi x i1023)) fs
  let mag := select (cmpi .eq e z) (mulf f fn)
    (select (cmpi .eq e i31) (id (select (cmpf .oeq f fz) finf fnan)) (mulf (addf f1 f) (mulf (sitofp .f32 (Host.shli i1 e)) fx)))
  select (cmpi .slt x z) (Host.negf mag) mag

/-- An integer constant as an array of scales. -/
abbrev kI (b : BitVec 32) : IVec S17920x160 32 := broadcastInDim S17920x160 ![] bcast_S_S17920x160 (constantI S_ 32 b)
/-- A float constant as an array of scales. -/
abbrev kF (b : BitVec 32) : FVec F S17920x160 .f32 := broadcastInDim S17920x160 ![] bcast_S_S17920x160 (constant S_ .f32 b)

/-- The decoded scales. -/
def scale (d : IVec S17920x160 16) : FVec F S17920x160 .f32 :=
  decode (extsi 32 d natLt_16_32) (kI 0#32) (kI 1#32) (kI 10#32) (kI 31#32) (kI 1023#32)
    (kF 0x3A800000#32) (kF 0x38800000#32) (kF 0x00000000#32) (kF 0x7F800000#32) (kF 0x7FC00000#32) (kF 0x3F800000#32) (kF 0x38000000#32)

/-- The decoded weights: each code times its block's scale. -/
def weights (q : IVec S17920x5120 8) (s : FVec F S17920x160 .f32) : FVec F S17920x5120 .bf16 :=
  truncf .bf16 (shapeCast S17920x5120 (mulf (shapeCast S17920x160x32 (sitofp .f32 (extsi 32 q natLt_8_32) : FVec F S17920x5120 .f32) shapeCasts_S17920x5120_S17920x160x32)
    (broadcastInDim S17920x160x32 ![0, 1, 2] bcast_S17920x160x1_S17920x160x32_0_1_2
      (broadcastInDim S17920x160x1 ![0, 1] bcast_S17920x160_S17920x160x1_0_1 s))) shapeCasts_S17920x160x32_S17920x5120) bitsLt_bf16_f32

/-- One product of the activations with decoded weights. -/
def product (x : FVec F S96x1x5120 .bf16) (w : FVec F S17920x5120 .bf16) : FVec F S96x1x17920 .f32 :=
  Host.dotGeneral dot_S96x1x5120_S17920x5120_S96x1x17920_2_1_01_0_n_n none x w

/-- The gated activation, the constant one given as an array. -/
def gated {s : Shape} (one g u : FVec F s .f32) : FVec F s .f32 :=
  mulf (mulf g (Host.divf one (addf one (Host.exp (Host.negf g))))) u

/-- The result's last steps: the gated activation rounded, the axis of extent one dropped. -/
def finish (g u : FVec F S96x1x17920 .f32) : FVec F S96x17920 .bf16 :=
  shapeCast S96x17920 (truncf .bf16 (gated (broadcastInDim S96x1x17920 ![] bcast_S_S96x1x17920 (constant S_ .f32 0x3F800000#32)) g u) bitsLt_bf16_f32)
    shapeCasts_S96x1x17920_S96x17920

/-- The reference's result is these pieces put together. -/
theorem res_eq (m : (ℓ : Loc nD τ sig) → Buf (Elt F) ℓ) (c : Dev nD) :
    Value.res_main_v87 m c = finish
      (product (m ((c.tc : Thread nD τ).loc main_arg0)) (weights (m ((c.tc : Thread nD τ).loc main_arg1)) (scale (m ((c.tc : Thread nD τ).loc main_arg2)))))
      (product (m ((c.tc : Thread nD τ).loc main_arg0)) (weights (m ((c.tc : Thread nD τ).loc main_arg3)) (scale (m ((c.tc : Thread nD τ).loc main_arg4))))) := by
  unfold Value.res_main_v87 finish gated product weights scale decode
  rfl

end Pieces

/-! ## The pieces at an index -/

/-- The decode of one word, the constants given. -/
def decode1 (x z i1 i10 i31 i1023 : BitVec 32) (fs fn fz finf fnan f1 fx : EReal) : EReal :=
  let e : BitVec 32 := IntOp.andi (IntOp.shrsi .host x i10) i31
  let f : EReal := (((IntOp.andi x i1023).toInt : ℝ) : EReal) * fs
  let mag : EReal := if IntOp.cmpi .eq e z = 1 then f * fn
    else if IntOp.cmpi .eq e i31 = 1 then (if Ideal.cmp .oeq f fz = 1 then finf else fnan)
    else (f1 + f) * ((((IntOp.shli .host i1 e).toInt : ℝ) : EReal) * fx)
  if IntOp.cmpi .slt x z = 1 then -mag else mag

/-- The decode of an array at an index. -/
theorem decode_apply {s : Shape} (x z i1 i10 i31 i1023 : IVec s 32) (fs fn fz finf fnan f1 fx : FVec Ideal s .f32) (j : s.Idx) :
    decode x z i1 i10 i31 i1023 fs fn fz finf fnan f1 fx j
      = decode1 (x j) (z j) (i1 j) (i10 j) (i31 j) (i1023 j) (fs j) (fn j) (fz j) (finf j) (fnan j) (f1 j) (fx j) := rfl

/-- An integer constant's array is that constant everywhere. -/
theorem kI_apply (b : BitVec 32) (j : S17920x160.Idx) : kI b j = b := rfl
/-- A float constant's array is that constant everywhere. -/
theorem kF_apply (b : BitVec 32) (j : S17920x160.Idx) : kF (F := Ideal) b j = Ideal.ofBits .f32 b := rfl

/-- The reference's scale of a word is its decode at the literal constants. -/
theorem reference_decode1 (h : BitVec 16) :
    decode1 (h.signExtend 32) 0#32 1#32 10#32 31#32 1023#32 (Ideal.ofBits .f32 0x3A800000#32) (Ideal.ofBits .f32 0x38800000#32)
      (Ideal.ofBits .f32 0x00000000#32) (Ideal.ofBits .f32 0x7F800000#32) (Ideal.ofBits .f32 0x7FC00000#32) (Ideal.ofBits .f32 0x3F800000#32)
      (Ideal.ofBits .f32 0x38000000#32) = Cert.Scale.reference h := by
  unfold decode1 Cert.Scale.reference
  rfl

/-- A finite scale is the number its word denotes. -/
theorem scale_apply (d : IVec S17920x160 16) (j : S17920x160.Idx) (hd : Cert.Scale.Finite (d j)) : scale (F := Ideal) d j = Cert.Scale.half (d j) := by
  unfold scale
  rw [decode_apply]
  simp only [kI_apply, kF_apply]
  exact (reference_decode1 (d j)).trans (Cert.Scale.reference_eq (d j) hd)

/-- Narrowing a float changes nothing. -/
theorem narrow_apply {s : Shape} (x : FVec Ideal s .f32) (j : s.Idx) : (truncf .bf16 x bitsLt_bf16_f32 : FVec Ideal s .bf16) j = x j := rfl

/-- A code widened and made a float is the integer the code is. -/
theorem codes_apply (q : IVec S17920x5120 8) (j : S17920x5120.Idx) :
    (sitofp .f32 (extsi 32 q natLt_8_32) : FVec Ideal S17920x5120 .f32) j = Cert.KernelIdeal.Body.code (q j) := by
  show ((((q j).signExtend 32).toInt : ℝ) : EReal) = (((q j).toInt : ℝ) : EReal)
  rw [BitVec.toInt_signExtend_of_le (by decide)]

/-- A weight at an index, its row and position split into blocks of 32. -/
theorem weights_apply (q : IVec S17920x5120 8) (s : FVec Ideal S17920x160 .f32) (n : Fin 17920) (t : Fin 5120) :
    weights q s (ix2 n t) = Cert.KernelIdeal.Body.code (q (ix2 n t)) * s (ix2 n ⟨t.val / 32, by omega⟩) := by
  unfold weights
  have hrow : (S17920x160x32.rowMajor (ix3 n ⟨t.val / 32, by omega⟩ ⟨t.val % 32, by omega⟩)).val = (S17920x5120.rowMajor (ix2 n t)).val := by
    refine (Shape.rowMajor_val_three (d := ![17920, 160, 32]) _).trans ((?_ : _ = _).trans (Shape.rowMajor_val_two (d := ![17920, 5120]) _).symm)
    show (n.val * 160 + t.val / 32) * 32 + t.val % 32 = n.val * 5120 + t.val
    omega
  rw [narrow_apply]
  refine (shapeCast_apply _ shapeCasts_S17920x160x32_S17920x5120 _ (ix3 n ⟨t.val / 32, by omega⟩ ⟨t.val % 32, by omega⟩) hrow).trans ?_
  refine congrArg₂ (fun a b : EReal => a * b) ((shapeCast_apply _ shapeCasts_S17920x5120_S17920x160x32 _ (ix2 n t) hrow.symm).trans (codes_apply q _)) ?_
  refine (broadcastInDim_apply _ bcast_S17920x160x1_S17920x160x32_0_1_2 _ _ (ix3 n ⟨t.val / 32, by omega⟩ 0) (fun a => ?_)).trans
    (broadcastInDim_apply _ bcast_S17920x160_S17920x160x1_0_1 _ _ (ix2 n ⟨t.val / 32, by omega⟩) (fun a => ?_))
  · match a with
    | ⟨0, _⟩ => exact (if_neg (show ¬ (17920 : ℕ) = 1 by decide)).symm
    | ⟨1, _⟩ => exact (if_neg (show ¬ (160 : ℕ) = 1 by decide)).symm
    | ⟨2, _⟩ => exact (if_pos rfl).symm
  · match a with
    | ⟨0, _⟩ => exact (if_neg (show ¬ (17920 : ℕ) = 1 by decide)).symm
    | ⟨1, _⟩ => exact (if_neg (show ¬ (160 : ℕ) = 1 by decide)).symm

/-- A product at an index is the sum over the contracted axis. -/
theorem product_apply (x : FVec Ideal S96x1x5120 .bf16) (w : FVec Ideal S17920x5120 .bf16) (b : Fin 96) (n : Fin 17920) :
    product x w (ix3 b 0 n) = ∑ t : Fin 5120, x (ix3 b 0 t) * w (ix2 n t) := by
  have hr : (dot_S96x1x5120_S17920x5120_S96x1x17920_2_1_01_0_n_n).contr.rank = 1 := rfl
  have hs : (dot_S96x1x5120_S17920x5120_S96x1x17920_2_1_01_0_n_n).contr.size ⟨0, by rw [hr]; omega⟩ = 5120 := rfl
  unfold product Host.dotGeneral
  rw [Ideal.dotGeneral_apply, ← Equiv.sum_comp (contrEquiv1 _ 5120 hr hs).symm]
  refine Finset.sum_congr rfl fun k _ => ?_
  have hk := contrEquiv1_symm_val _ 5120 hr hs k
  have el : (dot_S96x1x5120_S17920x5120_S96x1x17920_2_1_01_0_n_n).lhsIdx (ix3 b 0 n) ((contrEquiv1 _ 5120 hr hs).symm k) = ix3 b 0 k := by
    funext a; apply Fin.ext
    match a with
    | ⟨0, _⟩ => rfl
    | ⟨1, _⟩ => rfl
    | ⟨2, _⟩ => exact hk
  have er : (dot_S96x1x5120_S17920x5120_S96x1x17920_2_1_01_0_n_n).rhsIdx (ix3 b 0 n) ((contrEquiv1 _ 5120 hr hs).symm k) = ix2 n k := by
    funext a; apply Fin.ext
    match a with
    | ⟨0, _⟩ => rfl
    | ⟨1, _⟩ => exact hk
  rw [el, er]

/-- The gated activation at an index. -/
theorem gated_apply {s : Shape} (one g u : FVec Ideal s .f32) (j : s.Idx) :
    gated one g u j = g j * Ideal.div (one j) (one j + Ideal.exp (-g j)) * u j := rfl

/-- The last steps at an index. -/
theorem finish_apply (g u : FVec Ideal S96x1x17920 .f32) (b : Fin 96) (n : Fin 17920) :
    finish g u (ix2 b n) = Cert.KernelIdeal.Body.gate (g (ix3 b 0 n)) (u (ix3 b 0 n)) := by
  unfold finish
  refine (shapeCast_apply _ shapeCasts_S96x1x17920_S96x17920 _ (ix3 b 0 n) (by
    refine (Shape.rowMajor_val_three (d := ![96, 1, 17920]) _).trans ((?_ : _ = _).trans (Shape.rowMajor_val_two (d := ![96, 17920]) _).symm)
    show (b.val * 1 + 0) * 17920 + n.val = b.val * 17920 + n.val
    omega)).trans ?_
  refine Eq.trans (gated_apply _ g u (ix3 b 0 n)) ?_
  have h1 : (broadcastInDim S96x1x17920 ![] bcast_S_S96x1x17920 (constant S_ .f32 0x3F800000#32 : FVec Ideal S_ .f32) : FVec Ideal S96x1x17920 .f32) (ix3 b 0 n) = 1 :=
    Cert.Scale.const_one
  rw [h1]
  rfl

/-- THE REFERENCE'S ARRAY: when every scale is finite, it is the gated activation of the two dot products. -/
theorem value (x : FVec Ideal S96x1x5120 .bf16) (qg : IVec S17920x5120 8) (dg : IVec S17920x160 16) (qu : IVec S17920x5120 8) (du : IVec S17920x160 16)
    (hg : ∀ j, Cert.Scale.Finite (dg j)) (hu : ∀ j, Cert.Scale.Finite (du j)) :
    finish (product x (weights qg (scale dg))) (product x (weights qu (scale du))) = Cert.KernelIdeal.Array.result x qg dg qu du := by
  funext i
  have hdot : ∀ (q : IVec S17920x5120 8) (d : IVec S17920x160 16) (hd : ∀ j, Cert.Scale.Finite (d j)) (b : Fin 96) (n : Fin 17920),
      product x (weights q (scale d)) (ix3 b 0 n) = Cert.KernelIdeal.Array.dot x q d b n := fun q d hd b n => by
    rw [product_apply]
    exact Finset.sum_congr rfl fun t _ => by rw [weights_apply, scale_apply d _ (hd _)]
  refine (congrArg (finish (F := Ideal) _ _) (eq_ix2 (n0 := 96) (n1 := 17920) i)).trans ((finish_apply _ _ _ _).trans ?_)
  exact congrArg₂ Cert.KernelIdeal.Body.gate (hdot qg dg hg (i 0) (i 1)) (hdot qu du hu (i 0) (i 1))

end Cert.ReferenceIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scales
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Reference
public import Idealize.ShloMosaic.Lib.Quiescent

@[expose] public section

noncomputable section

namespace Cert.Proof

open Idealize.ShloMosaic Idealize.SL.Sem Cert.Kernel

/-! ## The frames -/

/-- From any memory the kernel ends with its arguments unchanged and every semaphore at zero, over bit-level floats. -/
theorem frame_kernel : Cert.quiescent_Kernel := fun m ρ _ => Cert.Kernel.Gen.frame m ρ

/-- The same over the extended reals. -/
theorem frame_kernelIdeal : Cert.quiescent_KernelIdeal := fun m ρ _ => Cert.KernelIdeal.Gen.frame m ρ

/-- The same over the extended reals when every scale is finite. -/
theorem frame_kernelIdeal_finite : Cert.quiescent_KernelIdeal_pre_finite_scales := fun m ρ _ => Cert.KernelIdeal.Gen.frame m ρ

/-- From any memory the reference ends with its arguments unchanged; it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same when every scale is finite. -/
theorem frame_reference_finite : Cert.quiescent_ReferenceIdeal_pre_finite_scales := fun m ρ _ => frame_reference m ρ trivial

/-! ## The precondition -/

/-- A set truth value is `true`. -/
theorem ofBool_eq_one (p : Bool) : BitVec.ofBool p = 1#1 ↔ p = true := by cases p <;> decide

/-- A conjunction of truth values is set when both are. -/
theorem and_one (a b : BitVec 1) : IntOp.andi a b = 1#1 → a = 1#1 ∧ b = 1#1 := by
  revert a b; decide

/-- The test of a scale's exponent bits is set only for a finite scale. -/
theorem finite_of_test (h : BitVec 16)
    (ht : IntOp.cmpi .ne (IntOp.andi (IntOp.shrsi .host (h.signExtend 32) 10#32) 31#32) 31#32 = 1#1) : Cert.Scale.Finite h := by
  have he := Cert.Scale.exponent_eq h
  unfold Cert.Scale.Finite
  rw [he] at ht
  intro hx
  have hv : (h.extractLsb' 10 5).setWidth 32 = 31#32 := by
    apply BitVec.eq_of_toNat_eq
    simp only [BitVec.toNat_setWidth, BitVec.extractLsb'_toNat, Nat.shiftRight_eq_div_pow, BitVec.toNat_ofNat]
    omega
  rw [hv] at ht
  exact absurd ht (by decide)

/-- The predicate's array at an index tests both scales there. -/
theorem test_apply (a0 : FVec Ideal Cert.Pre_finite_scales.S96x1x5120 .bf16) (a1 a3 : IVec Cert.Pre_finite_scales.S17920x5120 8)
    (a2 a4 : IVec Cert.Pre_finite_scales.S17920x160 16) (j : Cert.Pre_finite_scales.S17920x160.Idx)
    (h : Cert.Pre_finite_scales.fn (F := Ideal) a0 a1 a2 a3 a4 j = 1#1) : Cert.Scale.Finite (a2 j) ∧ Cert.Scale.Finite (a4 j) :=
  ⟨finite_of_test _ (and_one _ _ h).1, finite_of_test _ (and_one _ _ h).2⟩

/-! ## The kernel computes what the reference computes -/

/-- The reference's run over the extended reals ends with the kernel's result, when every scale is finite. -/
theorem algebraic : Cert.algebraic_KernelIdeal_ReferenceIdeal_pre_finite_scales := by
  intro m ρ m' ρ' hpre hagree
  have hfin := fun (c : Dev Cert.KernelIdeal.nD) j => test_apply _ _ _ _ _ j (congrFun (hpre c) j)
  refine ⟨fun c => Cert.KernelIdeal.Array.result
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Array.final m c (fun j => (hfin c j).1) (fun j => (hfin c j).2)), (h c).2⟩)
      (Cert.KernelIdeal.Value.run_blocks (F := Ideal) m ρ)
  · refine (θ_run Cert.ReferenceIdeal.defs _ _).mono (fun r h c => ⟨(h c).1.trans ?_, (h c).2⟩) (Cert.ReferenceIdeal.Value.run (F := Ideal) m' ρ')
    obtain ⟨e0, e1, e2, e3, e4⟩ := hagree c
    rw [Cert.ReferenceIdeal.Result.res_eq, e0, e1, e2, e3, e4]
    exact Cert.ReferenceIdeal.Result.value _ _ _ _ _ (fun j => (hfin c j).1) (fun j => (hfin c j).2)

/-- Everything the certificate claims. -/
theorem claim : Cert.Claim := ⟨Cert.Kernel.Gen.facts, Cert.KernelIdeal.Gen.facts, Cert.ReferenceIdeal.Gen.facts, Cert.Pre_finite_scales.Gen.facts,
  frame_kernel, frame_kernelIdeal, frame_kernelIdeal_finite, frame_reference, frame_reference_finite, trivial, algebraic⟩

end Cert.Proof

end
